-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x512x96 : Shape := ⟨4, ![4, 512, 512, 96]⟩
abbrev S4x64x2x64x192 : Shape := ⟨5, ![4, 64, 2, 64, 192]⟩
abbrev S4x64x64x96 : Shape := ⟨4, ![4, 64, 64, 96]⟩
abbrev S4x128x128x96 : Shape := ⟨4, ![4, 128, 128, 96]⟩
abbrev S1x64x512x96 : Shape := ⟨4, ![1, 64, 512, 96]⟩
abbrev S1x8x2x64x192 : Shape := ⟨5, ![1, 8, 2, 64, 192]⟩
abbrev S1x8x64x96 : Shape := ⟨4, ![1, 8, 64, 96]⟩
abbrev S8x64x96 : Shape := ⟨3, ![8, 64, 96]⟩
abbrev S2x64x96 : Shape := ⟨3, ![2, 64, 96]⟩
abbrev S8x2x64x192 : Shape := ⟨4, ![8, 2, 64, 192]⟩
abbrev S64x512x96 : Shape := ⟨3, ![64, 512, 96]⟩
abbrev S8x8x64x8x96 : Shape := ⟨5, ![8, 8, 64, 8, 96]⟩
abbrev S8x1x64x8x96 : Shape := ⟨5, ![8, 1, 64, 8, 96]⟩
abbrev S8x64x8x96 : Shape := ⟨4, ![8, 64, 8, 96]⟩
abbrev S7x64x8x96 : Shape := ⟨4, ![7, 64, 8, 96]⟩
abbrev S1x64x8x96 : Shape := ⟨4, ![1, 64, 8, 96]⟩
abbrev S8x8x64x96 : Shape := ⟨4, ![8, 8, 64, 96]⟩
abbrev S8x1x64x96 : Shape := ⟨4, ![8, 1, 64, 96]⟩
abbrev S8x63x96 : Shape := ⟨3, ![8, 63, 96]⟩
abbrev S8x1x96 : Shape := ⟨3, ![8, 1, 96]⟩
abbrev S7x64x96 : Shape := ⟨3, ![7, 64, 96]⟩
abbrev S1x64x96 : Shape := ⟨3, ![1, 64, 96]⟩
abbrev S64x96 : Shape := ⟨2, ![64, 96]⟩
abbrev S1x1x64x1x96 : Shape := ⟨5, ![1, 1, 64, 1, 96]⟩
abbrev S63x96 : Shape := ⟨2, ![63, 96]⟩
abbrev S1x96 : Shape := ⟨2, ![1, 96]⟩
abbrev S64x192 : Shape := ⟨2, ![64, 192]⟩
abbrev S1x1x64x192 : Shape := ⟨4, ![1, 1, 64, 192]⟩
abbrev S8x64x192 : Shape := ⟨3, ![8, 64, 192]⟩
abbrev S8x1x64x192 : Shape := ⟨4, ![8, 1, 64, 192]⟩

abbrev nBuf : Space → Nat
  | .hbm => 4
  | .vmem => 10
  | .smem => 0
  | _ => 0

abbrev bufTy : (tb : Table) → Fin (tcTables nBuf tb) → BufTy
  | .hbm, ⟨0, _⟩ => ⟨S4x512x512x96, .f32⟩
  | .hbm, ⟨1, _⟩ => ⟨S4x64x2x64x192, .f32⟩
  | .hbm, ⟨2, _⟩ => ⟨S4x64x64x96, .f32⟩
  | .hbm, ⟨3, _⟩ => ⟨S4x128x128x96, .f32⟩
  | .local _ .vmem, ⟨0, _⟩ => ⟨S1x64x512x96, .f32⟩
  | .local _ .vmem, ⟨1, _⟩ => ⟨S1x64x512x96, .f32⟩
  | .local _ .vmem, ⟨2, _⟩ => ⟨S1x8x2x64x192, .f32⟩
  | .local _ .vmem, ⟨3, _⟩ => ⟨S1x8x2x64x192, .f32⟩
  | .local _ .vmem, ⟨4, _⟩ => ⟨S1x8x64x96, .f32⟩
  | .local _ .vmem, ⟨5, _⟩ => ⟨S1x8x64x96, .f32⟩
  | .local _ .vmem, ⟨6, _⟩ => ⟨S8x64x96, .f32⟩
  | .local _ .vmem, ⟨7, _⟩ => ⟨S2x64x96, .f32⟩
  | .local _ .vmem, ⟨8, _⟩ => ⟨S8x2x64x192, .f32⟩
  | .local _ .vmem, ⟨9, _⟩ => ⟨S8x64x96, .f32⟩
  | _, _ => ⟨S4x512x512x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0_0 : Ref sig .tc := ⟨.hbm, 1, rfl⟩
abbrev main_v0_1 : Ref sig .tc := ⟨.hbm, 2, rfl⟩
abbrev main_v0_0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 4 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, v27.toNat, c0_i32_10.toNat, c0_i32_11.toNat]

def cc0_transform_1 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  let c0_i32_15 : BitVec 32 := 0#32
  ![v18.toNat, v28.toNat, c0_i32_12.toNat, c0_i32_13.toNat, c0_i32_14.toNat]

def cc0_transform_2 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, v28.toNat, c0_i32_12.toNat, c0_i32_13.toNat]

abbrev stage0_0 : Fin 2 → Memref sig .tc .vmem S1x64x512x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2x64x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x512x512x96 : Shape := ⟨4, ![4, 512, 512, 96]⟩
abbrev S_ : Shape := ⟨0, ![]⟩
abbrev S4x256x256x96 : Shape := ⟨4, ![4, 256, 256, 96]⟩
abbrev S4x128x128x96 : Shape := ⟨4, ![4, 128, 128, 96]⟩
abbrev S4x64x64x96 : Shape := ⟨4, ![4, 64, 64, 96]⟩

abbrev nBuf : Space → Nat
  | .hbm => 10
  | .vmem => 0
  | .smem => 0
  | _ => 0

abbrev bufTy : (tb : Table) → Fin (tcTables nBuf tb) → BufTy
  | .hbm, ⟨0, _⟩ => ⟨S4x512x512x96, .f32⟩
  | .hbm, ⟨1, _⟩ => ⟨S_, .f32⟩
  | .hbm, ⟨2, _⟩ => ⟨S_, .f32⟩
  | .hbm, ⟨3, _⟩ => ⟨S4x256x256x96, .f32⟩
  | .hbm, ⟨4, _⟩ => ⟨S_, .f32⟩
  | .hbm, ⟨5, _⟩ => ⟨S_, .f32⟩
  | .hbm, ⟨6, _⟩ => ⟨S4x128x128x96, .f32⟩
  | .hbm, ⟨7, _⟩ => ⟨S_, .f32⟩
  | .hbm, ⟨8, _⟩ => ⟨S_, .f32⟩
  | .hbm, ⟨9, _⟩ => ⟨S4x64x64x96, .f32⟩
  | _, _ => ⟨S4x512x512x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Pool.Body.lean ====
/- One run of the kernel's body, at any float values: from the seven buffers it touches, held whole, to what it leaves in them. -/
module

public import proofs.«01_k».proof.Proof.Gen.KernelIdeal.Frame
public import proofs.«01_k».proof.Proof.Gen.KernelIdeal.Skeleton

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The carried rows of the first pooling level (two rows, in four column classes each). -/
abbrev mC1 : Memref sig .tc .vmem S8x64x96 .f32 := Memref.whole cc0_scratch0
/-- The carried row of the second pooling level. -/
abbrev mC2 : Memref sig .tc .vmem S2x64x96 .f32 := Memref.whole cc0_scratch1
/-- The second level's tile, waiting for the next tile's rows. -/
abbrev mO2 : Memref sig .tc .vmem S8x2x64x192 .f32 := Memref.whole cc0_scratch2
/-- The third level's tile, waiting for the next tile's rows. -/
abbrev mO3 : Memref sig .tc .vmem S8x64x96 .f32 := Memref.whole cc0_scratch3

/-- The contents of a memref's buffer on core `c`. -/
abbrev Ct (F : FTy → Type) (c : Dev nD) {S : Shape} (M : Memref sig .tc .vmem S .f32) : Type := Buf (Elt F) (M.view.loc (c : Thread nD τ))
/-- The buffer of `M`, held whole at `f`. -/
abbrev pt (c : Dev nD) {S : Shape} (M : Memref sig .tc .vmem S .f32) (f : Ct F c M) : sProp 𝕄 :=
  iprop(M.view.loc (c : Thread nD τ) ↦{fullShare} f)

/-- The contents of the four scratch buffers together. -/
structure Scr (F : FTy → Type) (c : Dev nD) where
  c1 : Ct F c mC1
  c2 : Ct F c mC2
  o2 : Ct F c mO2
  o3 : Ct F c mO3

/-- What one run leaves: the writes to the two results' staging buffers, and the scratch buffers' new contents. -/
structure Left (F : FTy → Type) (c : Dev nD) where
  out2 : List (View.Piece (Elt F) S1x8x2x64x192 .f32)
  out3 : List (View.Piece (Elt F) S1x8x64x96 .f32)
  scr : Scr F c

set_option maxHeartbeats 1000000 in
/-- THE BODY'S RUN: what it writes is found by the run itself, as functions of the staged block's buffer and the scratch
    buffers' contents when it starts. -/
def run (c : Dev nD) (i : grid0.Coords) (arg1 : Memref sig .tc .vmem S1x64x512x96 .f32) (harg1 : arg1.IsWhole)
    (arg2 : Memref sig .tc .vmem S1x8x2x64x192 .f32) (harg2 : arg2.IsWhole) (arg3 : Memref sig .tc .vmem S1x8x64x96 .f32) (harg3 : arg3.IsWhole)
    (f1 : Ct F c arg1) (g : Scr F c) :
    { L : Left F c // ∀ (f2 : Ct F c arg2) (f3 : Ct F c arg3) (Q : PUnit → sProp 𝕄),
      iprop(pt c arg1 f1 ∗ pt c arg2 f2 ∗ pt c arg3 f3 ∗ pt c mC1 g.c1 ∗ pt c mC2 g.c2 ∗ pt c mO2 g.o2 ∗ pt c mO3 g.o3
        ∗ ((pt c arg1 f1 ∗ pt c arg2 (arg2.view.writes (Elt F) f2 L.out2) ∗ pt c arg3 (arg3.view.writes (Elt F) f3 L.out3)
            ∗ pt c mC1 L.scr.c1 ∗ pt c mC2 L.scr.c2 ∗ pt c mO2 L.scr.o2 ∗ pt c mO3 L.scr.o3) -∗ Q ⟨⟩))
      ⊢ wp frame (wpE (defs₀ (F := F)) Variants.none c none) Set.univ
          (cc0__kernel i arg1 harg1 arg2 harg2 arg3 harg3 mC1 (Memref.isWhole_whole _) mC2 (Memref.isWhole_whole _) mO2 (Memref.isWhole_whole _) mO3 (Memref.isWhole_whole _)) Q } := by
  refine ⟨⟨?_, ?_, ⟨?_, ?_, ?_, ?_⟩⟩, fun f2 f3 Q => ?run⟩
  case run =>
    sl_unfold [cc0__kernel]
    iintro ⟨H1, H2, H3, H4, H5, H6, H7, HQ⟩
    sl_exec_parts
    sl_step
    iapply HQ
    isplitl [H1]; · iexact H1
    isplitl [H2]; · iexact H2
    isplitl [H3]; · iexact H3
    isplitl [H4]; · iexact H4
    isplitl [H5]; · iexact H5
    isplitl [H6]; · iexact H6
    iexact H7

end Cert.KernelIdeal.Pool

end
-- ==== Proof.Pool.Data.lean ====
/- The pipeline's proof data: what the scratch buffers hold between grid points, and what the body leaves in the two results'
   staging buffers. Nothing here names a value: each is what one run of the body leaves, from what the runs before it left. -/
module

public import proofs.«01_k».proof.Proof.Pool.Body
public import Idealize.ShloMosaic.Lib.Pipeline.DatRel

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ)

/-- The staging buffer of the input at point `t`. -/
abbrev s0 (t : Fin cfg0.N) : Memref sig .tc .vmem S1x64x512x96 .f32 := win0_0.stage (cfg0.slots t 0)
/-- The staging buffer of the second level's result at point `t`. -/
abbrev s1 (t : Fin cfg0.N) : Memref sig .tc .vmem S1x8x2x64x192 .f32 := win0_1.stage (cfg0.slots t 1)
/-- The staging buffer of the third level's result at point `t`. -/
abbrev s2 (t : Fin cfg0.N) : Memref sig .tc .vmem S1x8x64x96 .f32 := win0_2.stage (cfg0.slots t 2)

/-- That staging buffer is a whole buffer. -/
theorem s0_whole (t : Fin cfg0.N) : (s0 t).IsWhole := hstage0_0 ((cfg0.slots t 0).cast nbuf0_0)
/-- So is this one. -/
theorem s1_whole (t : Fin cfg0.N) : (s1 t).IsWhole := hstage0_1 ((cfg0.slots t 1).cast nbuf0_1)
/-- And this one. -/
theorem s2_whole (t : Fin cfg0.N) : (s2 t).IsWhole := hstage0_2 ((cfg0.slots t 2).cast nbuf0_2)

/-- What the body leaves at point `t`, from the staged block's buffer and the scratch buffers' contents. -/
abbrev left (c : Dev nD) (t : Fin cfg0.N) (f1 : Ct F c (s0 t)) (g : Scr F c) : Left F c :=
  (run c (grid0.coords t) (s0 t) (s0_whole t) (s1 t) (s1_whole t) (s2 t) (s2_whole t) f1 g).1

/-- A whole buffer owned at `Y` is the buffer held at contents that read as `Y`. -/
theorem owns_open (c : Dev nD) {S : Shape} {M : Memref sig .tc .vmem S .f32} (h : M.IsWhole) (Y : S.Idx → F .f32) :
    (owns c M fullShare Y : sProp 𝕄) = iprop(∃ f : Ct F c M, ⌜M.view.read (Elt F) f = Y⌝ ∗ pt c M f) := by
  unfold owns; rw [h.set_eq_univ]

/-- The body at point `t`, in the terms of `left`. -/
theorem run_left (c : Dev nD) (t : Fin cfg0.N) (f1 : Ct F c (s0 t)) (g : Scr F c) (f2 : Ct F c (s1 t)) (f3 : Ct F c (s2 t)) (Q : PUnit → sProp 𝕄) :
    iprop(pt c (s0 t) f1 ∗ pt c (s1 t) f2 ∗ pt c (s2 t) f3 ∗ pt c mC1 g.c1 ∗ pt c mC2 g.c2 ∗ pt c mO2 g.o2 ∗ pt c mO3 g.o3
        ∗ ((pt c (s0 t) f1 ∗ pt c (s1 t) ((s1 t).view.writes (Elt F) f2 (left c t f1 g).out2)
            ∗ pt c (s2 t) ((s2 t).view.writes (Elt F) f3 (left c t f1 g).out3)
            ∗ pt c mC1 (left c t f1 g).scr.c1 ∗ pt c mC2 (left c t f1 g).scr.c2 ∗ pt c mO2 (left c t f1 g).scr.o2 ∗ pt c mO3 (left c t f1 g).scr.o3)
          -∗ Q ⟨⟩))
      ⊢ wp frame (wpE (defs₀ (F := F)) Variants.none c none) Set.univ (bodyAt0 t) Q :=
  (run c (grid0.coords t) (s0 t) (s0_whole t) (s1 t) (s1_whole t) (s2 t) (s2_whole t) f1 g).2 f2 f3 Q

/-- The staging buffer `f1` holds the block of the image that point `t` fetches. -/
def Staged (c : Dev nD) (t : Fin cfg0.N) (f1 : Ct F c (s0 t)) : Prop :=
  (s0 t).view.read (Elt F) f1 = iblk m c 0 t

/-- The scratch buffers hold what the body left at the point before `n`: anything, before the first. -/
def Came (c : Dev nD) (n : ℕ) (g : Scr F c) : Prop :=
  n = 0 ∨ ∃ (t : Fin cfg0.N) (f1 : Ct F c (s0 t)) (h : Scr F c), t.val + 1 = n ∧ Staged m c t f1 ∧ g = (left c t f1 h).scr

/-- The second level's result as the body leaves it in its staging buffer at point `t`. -/
def Rl1 (c : Dev nD) (t : Fin cfg0.N) (X : S1x8x2x64x192.Idx → F .f32) : Prop :=
  ∃ (f1 : Ct F c (s0 t)) (g : Scr F c) (f2 : Ct F c (s1 t)), Staged m c t f1 ∧ Came m c t.val g
    ∧ X = (s1 t).view.read (Elt F) ((s1 t).view.writes (Elt F) f2 (left c t f1 g).out2)

/-- The third level's result as the body leaves it in its staging buffer at point `t`. -/
def Rl2 (c : Dev nD) (t : Fin cfg0.N) (X : S1x8x64x96.Idx → F .f32) : Prop :=
  ∃ (f1 : Ct F c (s0 t)) (g : Scr F c) (f3 : Ct F c (s2 t)), Staged m c t f1 ∧ Came m c t.val g
    ∧ X = (s2 t).view.read (Elt F) ((s2 t).view.writes (Elt F) f3 (left c t f1 g).out3)

/-- Both results' conditions; the input window has none. -/
def Rl (c : Dev nD) (w : Fin cfg0.W) (t : Fin cfg0.N) : ((cfg0.win w).block.Idx → Elt F (cfg0.win w).elt) → Prop :=
  match w with
  | ⟨0, _⟩ => fun _ => True
  | ⟨1, _⟩ => Rl1 m c t
  | ⟨2, _⟩ => Rl2 m c t

/-- The two results' windows are held to a condition rather than to a value. -/
def fgt : Fin cfg0.W → Bool := fun w => match w with
  | ⟨0, _⟩ => false
  | ⟨1, _⟩ => true
  | ⟨2, _⟩ => true

/-- Before point `n`: the scratch buffers with what came before, and the core's generator register. -/
def Ph (c : Dev nD) (n : ℕ) : sProp 𝕄 :=
  iprop((∃ g : Scr F c, ⌜Came m c n g⌝ ∗ pt c mC1 g.c1 ∗ pt c mC2 g.c2 ∗ pt c mO2 g.o2 ∗ pt c mO3 g.o3) ∗ ∃ r, prngReg c r)

/-- The proof data: the input's block stays in its staging buffer. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => Classical.arbitrary _
    | ⟨2, _⟩ => fun _ => Classical.arbitrary _
  Φ n := Ph m c n.val
  q _ := fullShare
  owed _ := 0

/-- Each window's array starts at its contents when the call starts. -/
theorem dat_A (c : Dev nD) (w : Fin cfg0.W) : (dat m c).A w = V m c (Pipeline.arrRef spec0 w) := by dsimp only [dat]
/-- The input's staging buffer keeps its block. -/
theorem after0 (c : Dev nD) (t : Fin cfg0.N) : (dat m c).after 0 t = iblk m c 0 t := by dsimp only [dat]

/-- The data with the results' windows held to their conditions. -/
abbrev rdat (c : Dev nD) : RDat τ (Elt F) Unit ℕ (UR sig nD τ) ℕ cfg0 c := (dat m c).toRRel fgt (Rl m c)

/-- What the body finds at point `t`. -/
def bodyPre (c : Dev nD) (t : Fin cfg0.N) : sProp 𝕄 :=
  iprop((dat m c).Φ t.castSucc ∗ (dat m c).owesAt () t.castSucc
    ∗ (∃ d, owns c (s0 t) fullShare ((dat m c).before 0 t d))
    ∗ (∃ Y, ⌜(rdat m c).Finds 1 t Y⌝ ∗ owns c (s1 t) fullShare Y)
    ∗ (∃ Y, ⌜(rdat m c).Finds 2 t Y⌝ ∗ owns c (s2 t) fullShare Y))

/-- What the body leaves at point `t`. -/
def bodyPost (c : Dev nD) (t : Fin cfg0.N) : sProp 𝕄 :=
  iprop((dat m c).Φ t.succ ∗ (dat m c).owesAt () t.succ
    ∗ owns c (s0 t) fullShare ((dat m c).after 0 t)
    ∗ (∃ X, ⌜Rl1 m c t X⌝ ∗ owns c (s1 t) fullShare X)
    ∗ (∃ X, ⌜Rl2 m c t X⌝ ∗ owns c (s2 t) fullShare X))

/-- THE BODY AT ONE POINT: from what came before to what the conditions ask. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dat m c) (dat_A m c 0) (after0 m c) t, after0]
  rw [show (dat m c).Φ t.castSucc = Ph m c t.val from rfl, show (dat m c).Φ t.succ = Ph m c (t.val + 1) from rfl]
  unfold Ph Dat.owesAt Pipeline.owesWithin
  rw [show (dat m c).owed t.castSucc = 0 from rfl, show (dat m c).owed t.succ = 0 from rfl]
  rw [owns_open c (s0_whole t)]
  simp only [owns_open c (s1_whole t), owns_open c (s2_whole t)]
  iintro ⟨⟨⟨%g, %hg, G4, G5, G6, G7⟩, Hr⟩, ⟨%W, -, HW⟩, ⟨%d0, %f1, %hf1, H1⟩, ⟨%Y2, -, %f2, -, H2⟩, ⟨%Y3, -, %f3, -, H3⟩⟩
  iapply (run_left c t f1 g f2 f3 _)
  isplitl [H1]; · iexact H1
  isplitl [H2]; · iexact H2
  isplitl [H3]; · iexact H3
  isplitl [G4]; · iexact G4
  isplitl [G5]; · iexact G5
  isplitl [G6]; · iexact G6
  isplitl [G7]; · iexact G7
  generalize hL : left c t f1 g = L
  iintro ⟨H1, H2, H3, G4, G5, G6, G7⟩
  isplitl [Hr G4 G5 G6 G7]
  · isplitl [G4 G5 G6 G7]
    · iexists L.scr
      isplitr; · ipureintro; exact Or.inr ⟨t, f1, g, rfl, hf1, by rw [hL]⟩
      isplitl [G4]; · iexact G4
      isplitl [G5]; · iexact G5
      isplitl [G6]; · iexact G6
      iexact G7
    iexact Hr
  isplitl [HW]
  · iexists W; isplitr; · ipureintro; exact fun _ _ => Or.inl trivial
    iexact HW
  isplitl [H1]
  · iexists f1; isplitr; · ipureintro; exact hf1
    iexact H1
  isplitl [H2]
  · iexists ((s1 t).view.read (Elt F) ((s1 t).view.writes (Elt F) f2 L.out2)); isplitr
    · ipureintro; exact ⟨f1, g, f2, hf1, hg, by rw [hL]⟩
    iexists ((s1 t).view.writes (Elt F) f2 L.out2); isplitr
    · ipureintro; rfl
    iexact H2
  iexists ((s2 t).view.read (Elt F) ((s2 t).view.writes (Elt F) f3 L.out3)); isplitr
  · ipureintro; exact ⟨f1, g, f3, hf1, hg, by rw [hL]⟩
  iexists ((s2 t).view.writes (Elt F) f3 L.out3); isplitr
  · ipureintro; rfl
  iexact H3

/-- The row of the body's table that the pipeline calls is the body at the point's staging buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    BodyObligationRel (dat (F := F) m c) (defs₀ (F := F)) Variants.none () Set.univ fgt (Rl m c) := fun t => by
  rw [bigSep_W0, bigSep_W0, defs₀_row]
  exact triple_restated (sound_body m c t) rfl .rfl fun _ => .rfl

end Cert.KernelIdeal.Pool

end
-- ==== Proof.Pool.Launch.lean ====
/- The launch: every run of the program ends with the two results' arrays at contents the proof data allow, the image unchanged, and
   the flattened result at what the host's line after the call makes of the arrays. -/
module

public import proofs.«01_k».proof.Proof.Pool.Data

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents for every window's array. -/
abbrev Arrs (F : FTy → Type) (c : Dev nD) : Type := (w : Fin cfg0.W) → Buf (Elt F) ((cfg0.win w).arr.view.loc (c.tc : Thread nD τ))

/-- The arrays' contents `A` are ones that the proof data allow once every block has been written back. -/
def Ends (c : Dev nD) (A : Arrs F c) : Prop := ∀ w, (rdat m c).ArrAt w cfg0.N (A w)

/-- Core `c`'s buffers after the host's line, had the call left its arrays at `A`. -/
abbrev tail (c : Dev nD) (A : Arrs F c) : Valuation τ sig (Elt F) :=
  StableHlo.after (List.flatten [hostOps1]) (withArrays spec0 c (V0 m c) A)

/-- What a run ends with: arrays at allowed contents `A`, and every other buffer at `tail` of the same `A`. -/
def Post (r : PUnit × MemSt nD τ sig (Elt F)) : Prop :=
  ∀ c : Dev nD, (∀ w, (rdat m c).ArrAt w cfg0.N (r.2.mem ((cfg0.win w).arr.view.loc (c.tc : Thread nD τ))))
    ∧ ∃ A, Ends m c A ∧ ∀ b ∈ restRefsP sig Prefetch.none spec0, r.2.mem ((c.tc : Thread nD τ).loc b) = tail m c A (Proc.devRef .tc b)

/-- The invariant before the first point, from the scratch buffers at whatever they hold. -/
theorem enter (c : Dev nD) : (ΦA spec0 c : sProp 𝕄) ⊢ Ph m c 0 := by
  unfold ΦA Ph; rw [scopedRest0_eq]
  iintro ⟨⟨⟨%a, H4⟩, ⟨%b, H5⟩, ⟨%d, H6⟩, ⟨%e, H7⟩⟩, Hr⟩
  isplitr [Hr]
  · iexists (⟨a, b, d, e⟩ : Scr F c)
    isplitr; · ipureintro; exact Or.inl rfl
    isplitl [H4]; · iexact H4
    isplitl [H5]; · iexact H5
    isplitl [H6]; · iexact H6
    iexact H7
  iexact Hr

/-- The invariant given back after the last point. -/
theorem leave (c : Dev nD) (n : ℕ) : Ph m c n ⊢ (ΦA spec0 c : sProp 𝕄) := by
  unfold ΦA Ph; rw [scopedRest0_eq]
  iintro ⟨⟨%g, -, H4, H5, H6, H7⟩, Hr⟩
  isplitr [Hr]
  · isplitl [H4]; · iexists g.c1; iexact H4
    isplitl [H5]; · iexists g.c2; iexact H5
    isplitl [H6]; · iexists g.o2; iexact H6
    iexists g.o3; iexact H7
  iexact Hr

/-- The arrays after the last write-back, held at some allowed contents. -/
theorem arrays_open (c : Dev nD) : ((rdat m c).arraysAt cfg0.N : sProp 𝕄) ⊢ iprop(∃ A : Arrs F c, ⌜Ends m c A⌝ ∗ (rdat m c).arrays A) := by
  unfold RDat.arraysAt RDat.arrays
  rw [bigSep_W0]
  simp only [show ∀ A : Arrs F c, (bigSep Finset.univ fun w : Fin cfg0.W => ((cfg0.win w).arr.view.loc (c.tc : Thread nD τ) ↦[(cfg0.win w).arr.view.set]{(rdat m c).share w} A w : sProp 𝕄)) = _ from fun A => bigSep_W0 _]
  iintro ⟨⟨%A0, %h0, H0⟩, ⟨%A1, %h1, H1⟩, ⟨%A2, %h2, H2⟩⟩
  iexists (fun w => match w with | ⟨0, _⟩ => A0 | ⟨1, _⟩ => A1 | ⟨2, _⟩ => A2)
  isplitr
  · ipureintro
    exact fun w => match w with | ⟨0, _⟩ => h0 | ⟨1, _⟩ => h1 | ⟨2, _⟩ => h2
  isplitl [H0]; · iexact H0
  isplitl [H1]; · iexact H1
  iexact H2

/-- And closed again. -/
theorem arrays_close (c : Dev nD) (A : Arrs F c) (h : Ends m c A) : ((rdat m c).arrays A : sProp 𝕄) ⊢ (rdat m c).arraysAt cfg0.N := by
  unfold RDat.arraysAt RDat.arrays
  rw [bigSep_W0, bigSep_W0]
  iintro ⟨H0, H1, H2⟩
  isplitl [H0]
  · iexists (A 0); isplitr; · ipureintro; exact h 0
    iexact H0
  isplitl [H1]
  · iexists (A 1); isplitr; · ipureintro; exact h 1
    iexact H1
  iexists (A 2); isplitr; · ipureintro; exact h 2
  iexact H2

/-- The buffers behind the arrays, at contents `A`, are the data's arrays at `A`. -/
theorem arrays_bufs (c : Dev nD) (A : Arrs F c) (B : (b : Ref sig .tc) → Buf (Elt F) ((c.tc : Thread nD τ).loc b)) (h : ∀ w, A w = B (arrRef spec0 w)) :
    (arrBufs spec0 c B : sProp 𝕄) = (rdat m c).arrays A :=
  (rdat m c).arrBufs_eq_arrays launch0.to₀.sharedIn arr_whole0
    (fun w _ => (shareOf_eq_fullShare_of_injective spec0 launch0.win.arr_inj w).symm) B A h

set_option backward.isDefEq.respectTransparency.types false in
/-- THE RUN: every run of the program ends as `Post` says, with every counter at zero. -/
theorem run_main : θ_run defs (onTc (τ := τ) (main (F := F))) (s₀ m ρ) (fun r => Post m r ∧ r.2.sem = fun _ => 0) := by
  have htail : ∀ (c : Dev nD) (Q' : PUnit → sProp 𝕄),
      iprop((iprop(boundary (c.tc : Thread nD τ) ∗ (rdat m c).arraysAt cfg0.N
            ∗ (∃ A, ⌜Ends m c A⌝ ∗ unscopedRestP Prefetch.none spec0 c (fun b => tail m c A (Proc.devRef .tc b)))) -∗ Q' ⟨⟩)
          ∗ boundary (c.tc : Thread nD τ) ∗ (rdat m c).arraysAt cfg0.N ∗ unscopedRestP Prefetch.none spec0 c (V m c))
        ⊢ wp frame (wpE defs (Variants.lift Variants.none) (c.tc : Thread nD τ) none) Set.univ (chain ([hostOps1].map StableHlo.seq)) Q' := by
    intro c Q'
    iintro ⟨Hk, Hb, Ha, HZ⟩
    ihave Ha' := (arrays_open m c) $$ Ha
    icases Ha' with ⟨%A, %hA, Ha⟩
    have hB := arrays_bufs m c A (fun b => withArrays spec0 c (V0 m c) A (Proc.devRef .tc b))
      (fun w => (withArrays_arr spec0 launch0.win.arr_inj c (V0 m c) A w).symm)
    iapply (tail_seqs_bufs_b pcfgs defs₀ Variants.none Prefetch.none spec0 c (V0 m c) A [hostOps1] sfx_sub sfx_fresh sfx_keeps Q')
    isplitl [Hk]
    · iintro ⟨Hb2, Ha2, Hu⟩
      iapply Hk
      isplitl [Hb2]; · iexact Hb2
      isplitl [Ha2]; · iapply (arrays_close m c A hA); iapply (Entails.of_eq hB); iexact Ha2
      iexists A; isplitr; · ipureintro; exact hA
      iexact Hu
    isplitl [Hb]; · iexact Hb
    isplitl [Ha]; · iapply (Entails.of_eq hB.symm); iexact Ha
    iexact HZ
  refine (θ_run defs _ _).mono (Q := fun r => Post m r ∧ r.2.sem = fun _ => 0) (fun _ h => h) ?_
  exact RDat.θ_run_region_pf_tail_quiescent pcfgs (fun q => (cfgs q).toPCfg_adm) (fun _ c => rdat m c) () (launch0.toP.cellOf_inj _) 0
    launch0.toP.to₀.win (OwnSemFacts.none spec0) launch0.toP.to₀.pre emb₁ defs₀ Variants.none m ρ main (fun _ => chain ([hostOps1].map StableHlo.seq))
    (fun c => (body_obligation m c).toRRel) block_pos0 arr_whole0 stage_whole0 (fun _ _ => rfl)
    (G := fun _ => iprop(emp)) (u₀ := initOf (cells (pin (pcfgs (F := F)) fun q => (cfgs q).toPCfg_adm) (launch0.toP.cellOf_inj _)) (launchToks (pin (pcfgs (F := F)) fun q => (cfgs q).toPCfg_adm) (launch0.toP.cellOf_inj _)))
    (hu₀ := by
      iintro Hu; imodintro
      isplitl [Hu]; · iapply (show (ownU _ : sProp 𝕄) ⊢ BI.own (emb₁ (initOf (cells (pin (pcfgs (F := F)) fun q => (cfgs q).toPCfg_adm) (launch0.toP.cellOf_inj _)) (launchToks (pin (pcfgs (F := F)) fun q => (cfgs q).toPCfg_adm) (launch0.toP.cellOf_inj _)))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq (arrays_bufs m c _ (V m c) fun w => dat_A m c w))
    (hpf := fun _ k => k.elim0)
    (X := fun c => iprop(∃ r, prngReg c r)) (Y := fun c => iprop(∃ r, prngReg c r))
    (Z := fun c => unscopedRestP Prefetch.none spec0 c (V m c))
    (Z' := fun c => iprop(∃ A, ⌜Ends m c A⌝ ∗ unscopedRestP Prefetch.none spec0 c (fun b => tail m c A (Proc.devRef .tc b))))
    (hX := fun c => by
      iintro ⟨HU, -, -, Hp, -⟩; imodintro
      isplitl [Hp]; · iexists _; iexact Hp
      iexact HU)
    (hin := fun c => (show _ ⊢ (ΦA spec0 c : sProp 𝕄) by
      unfold ΦA; iintro ⟨Hp, -, Hr⟩
      isplitl [Hr]; · iexact Hr
      iexact Hp).trans (enter m c))
    (hout := fun c => (leave m c _).trans (by
      rw [ownSems0_none]; unfold ΦA
      iintro ⟨Hr, Hp⟩
      isplitl [Hp]; · iexact Hp
      isplitr; · iempintro
      iexact Hr))
    (htail := htail)
    (QY := fun c s => ∃ A, Ends m c A ∧ ∀ b ∈ restRefsP sig Prefetch.none spec0, s.mem ((c.tc : Thread nD τ).loc b) = tail m c A (Proc.devRef .tc b))
    (hY := fun c s' => by
      iintro ⟨-, HZ, HSI⟩
      icases HZ with ⟨%A, %hA, HZ⟩
      unfold unscopedRestP
      ihave HZ' := (pointsTo_read_all (restRefsP sig Prefetch.none spec0) (fun b => (c.tc : Thread nD τ).loc b) (fun b => tail m c A (Proc.devRef .tc b)) s') $$ [HZ HSI]
      · isplitl [HZ] <;> iassumption
      icases HZ' with ⟨%hZ, HSI⟩
      imodintro
      isplitr
      · ipureintro; exact ⟨A, hA, hZ⟩
      iexact HSI)
    (hQ := fun s h hz => ⟨fun c => ⟨(h c).1, (h c).2.2⟩, hz⟩)

end Cert.KernelIdeal.Pool

end
-- ==== Proof.Pool.Fields.lean ====
/- Fields of values over rows, columns and channels, and 3×3 pooling with stride 2 on them. An image is a field that is zero past its
   last row and its last column, so the padding of the pooling needs no case of its own. -/
module

public import Idealize.ShloMosaic.Lib.Pointwise

@[expose] public section

noncomputable section

namespace Cert.KernelIdeal.Pool

/-- A value for each row, column and channel. -/
abbrev Fld : Type := ℕ → ℕ → Fin 96 → EReal

/-- Three rows summed, every second row. -/
def H (f : Fld) : Fld := fun r q k => f (2 * r) q k + f (2 * r + 1) q k + f (2 * r + 2) q k

/-- Three columns summed, every second column. -/
def W (f : Fld) : Fld := fun r q k => f r (2 * q) k + f r (2 * q + 1) k + f r (2 * q + 2) k

/-- The 3×3 pooling with stride 2. -/
def P (f : Fld) : Fld := W (H f)

/-- Rows and columns may be summed in either order. -/
theorem H_W (f : Fld) : H (W f) = P f := by
  funext r q k
  unfold P H W
  beta_reduce
  ac_rfl

/-- The field is zero from row `n` on. -/
def ZR (f : Fld) (n : ℕ) : Prop := ∀ r q k, n ≤ r → f r q k = 0
/-- The field is zero from column `n` on. -/
def ZC (f : Fld) (n : ℕ) : Prop := ∀ r q k, n ≤ q → f r q k = 0

/-- Row sums of a field that ends at row `2 n` end at row `n`. -/
theorem ZR.H {f : Fld} {n : ℕ} (h : ZR f (2 * n)) : ZR (H f) n := fun r q k hr => by
  unfold Pool.H
  rw [h _ _ _ (by omega), h _ _ _ (by omega), h _ _ _ (by omega)]; simp
/-- Row sums end at the field's own column. -/
theorem ZC.H {f : Fld} {n : ℕ} (h : ZC f n) : ZC (H f) n := fun r q k hq => by
  unfold Pool.H
  rw [h _ _ _ hq, h _ _ _ hq, h _ _ _ hq]; simp
/-- Column sums end at the field's own row. -/
theorem ZR.W {f : Fld} {n : ℕ} (h : ZR f n) : ZR (W f) n := fun r q k hr => by
  unfold Pool.W
  rw [h _ _ _ hr, h _ _ _ hr, h _ _ _ hr]; simp
/-- Column sums of a field that ends at column `2 n` end at column `n`. -/
theorem ZC.W {f : Fld} {n : ℕ} (h : ZC f (2 * n)) : ZC (W f) n := fun r q k hq => by
  unfold Pool.W
  rw [h _ _ _ (by omega), h _ _ _ (by omega), h _ _ _ (by omega)]; simp
/-- The pooling of a field that ends at row `2 n` ends at row `n`. -/
theorem ZR.P {f : Fld} {n : ℕ} (h : ZR f (2 * n)) : ZR (P f) n := h.H.W
/-- The pooling of a field that ends at column `2 n` ends at column `n`. -/
theorem ZC.P {f : Fld} {n : ℕ} (h : ZC f (2 * n)) : ZC (P f) n := h.H.W

/-- Past its last row the field is zero. -/
theorem ZR.out {f : Fld} {n : ℕ} (h : ZR f n) {r q : ℕ} {k : Fin 96} (hr : n ≤ r) : f r q k = 0 := h r q k hr
/-- Past its last column the field is zero. -/
theorem ZC.out {f : Fld} {n : ℕ} (h : ZC f n) {r q : ℕ} {k : Fin 96} (hq : n ≤ q) : f r q k = 0 := h r q k hq

/-- One field at equal places. -/
theorem same (f : Fld) {r r' q q' : ℕ} {k : Fin 96} (hr : r = r') (hq : q = q') : f r q k = f r' q' k := by rw [hr, hq]
/-- Sums of three agree when their terms do. -/
theorem add3 {a b d a' b' d' : EReal} (ha : a = a') (hb : b = b') (hd : d = d') : a + b + d = a' + b' + d' := by rw [ha, hb, hd]

/-- Three zeros make zero. -/
theorem zero3 {a b d : EReal} (ha : a = 0) (hb : b = 0) (hd : d = 0) : a + b + d = 0 := by rw [ha, hb, hd]; simp

/-- The field from row `a` on. -/
def down (a : ℕ) (f : Fld) : Fld := fun r q k => f (a + r) q k

/-- Pooling the field from an even row on is the pooled field from half that row on. -/
theorem P_down (a : ℕ) (f : Fld) : P (down (2 * a) f) = down a (P f) := by
  funext r q k
  unfold P H W down
  simp only [Nat.mul_add, Nat.add_assoc]

/-- A choice of `a` or zero is `b`, when it is in each case. -/
theorem edge {p : Prop} [Decidable p] {a b : EReal} (h0 : ¬p → b = 0) (h1 : p → a = b) : (if _ : p then a else 0) = b := by
  by_cases hp : p
  · rw [dif_pos hp, h1 hp]
  · rw [dif_neg hp, h0 hp]

/-- Two fields agree on the first `n` rows. -/
def Agree (f g : Fld) (n : ℕ) : Prop := ∀ r q k, r < n → f r q k = g r q k

/-- Fields that agree on rows have column sums that do. -/
theorem Agree.W {f g : Fld} {n : ℕ} (h : Agree f g n) : Agree (W f) (W g) n := fun r q k hr => by
  unfold Pool.W
  rw [h _ _ _ hr, h _ _ _ hr, h _ _ _ hr]

/-- Pooled, they agree on the rows that need no row past those. -/
theorem Agree.P {f g : Fld} {n m : ℕ} (h : Agree f g n) (hm : 2 * m + 1 ≤ n) : Agree (P f) (P g) m := fun r q k hr => by
  rw [← H_W, ← H_W]
  unfold H
  rw [h.W _ _ _ (by omega), h.W _ _ _ (by omega), h.W _ _ _ (by omega)]

end Cert.KernelIdeal.Pool

end
-- ==== Proof.Pool.Tile.lean ====
/- What one run of the body computes from the staged block alone, read at an index: the tile's own three poolings, with zeros past
   the tile's last row and column. -/
module

public import proofs.«01_k».proof.Proof.Pool.Body
public import proofs.«01_k».proof.Proof.Pool.Fields

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic

/-- A block of 64 rows and 512 columns as a field, zero outside. -/
def tile (v : Vec Ideal S1x64x512x96 .f32) : Fld := fun r q k =>
  if h : r < 64 ∧ q < 512 then v (ix4 0 ⟨r, h.1⟩ ⟨q, h.2⟩ k) else 0

/-- Inside, the field is the block. -/
theorem tile_at (v : Vec Ideal S1x64x512x96 .f32) (r : Fin 64) (q : Fin 512) (k : Fin 96) :
    v (ix4 0 r q k) = tile v r.val q.val k := by
  unfold tile; rw [dif_pos ⟨r.isLt, q.isLt⟩]

/-- The block's field ends at row 64. -/
theorem tile_ZR (v : Vec Ideal S1x64x512x96 .f32) : ZR (tile v) 64 := fun r q k h => by
  unfold tile; rw [dif_neg (by omega)]
/-- The block's field ends at column 512. -/
theorem tile_ZC (v : Vec Ideal S1x64x512x96 .f32) : ZC (tile v) 512 := fun r q k h => by
  unfold tile; rw [dif_neg (by omega)]

variable (c : Dev nD) (arg1 : Memref sig .tc .vmem S1x64x512x96 .f32) (f1 : Ct Ideal c arg1)

/-- The staged block as the body loads it. -/
abbrev loaded : Vec Ideal S1x64x512x96 .f32 :=
  View.readAt (Elt Ideal) arg1.view (Rect.unit ![0, 0, 0, 0] S1x64x512x96.size inb_S1x64x512x96_S1x64x512x96_0_0_0_0).toLoadRect f1

/-- The staged block as a field. -/
abbrev Y : Fld := tile (loaded c arg1 f1)

/-- Rows pooled: row class `th` of four, column class `s` of eight. -/
theorem rows_at (v : Vec Ideal S1x64x512x96 .f32) (g s : Fin 8) (w : Fin 64) (k : Fin 96) :
    k0_pay3 v (ix4 g s w k) = H (tile v) (4 * g.val) (8 * w.val + s.val) k
    ∧ k0_pay4 v (ix4 g s w k) = H (tile v) (4 * g.val + 1) (8 * w.val + s.val) k
    ∧ k0_pay5 v (ix4 g s w k) = H (tile v) (4 * g.val + 2) (8 * w.val + s.val) k
    ∧ k0_pay6 v (ix4 g s w k) = H (tile v) (4 * g.val + 3) (8 * w.val + s.val) k := by
  have hR := tile_ZR v
  have hv := tile_at v
  refine ⟨?_, ?_, ?_, ?_⟩
  all_goals
    pointwise [k0_pay3, k0_pay4, k0_pay5, k0_pay6, k0_pay2]
    simp only [hv]
    unfold H
    repeat' first | apply add3 | exact hR.out (by omega) | apply edge | apply same (tile v) | intro _
    all_goals omega

/-- The first level: row class `th` and column class `tw` of four. -/
theorem level1_at (g : Fin 8) (w : Fin 64) (k : Fin 96) :
    run.sl.r_35 c arg1 f1 (ix3 g w k) = P (Y c arg1 f1) (4 * g.val) (4 * w.val) k
    ∧ run.sl.r_36 c arg1 f1 (ix3 g w k) = P (Y c arg1 f1) (4 * g.val + 1) (4 * w.val) k
    ∧ run.sl.r_37 c arg1 f1 (ix3 g w k) = P (Y c arg1 f1) (4 * g.val + 2) (4 * w.val) k
    ∧ run.sl.r_38 c arg1 f1 (ix3 g w k) = P (Y c arg1 f1) (4 * g.val + 3) (4 * w.val) k
    ∧ run.sl.r_39 c arg1 f1 (ix3 g w k) = P (Y c arg1 f1) (4 * g.val) (4 * w.val + 1) k
    ∧ run.sl.r_40 c arg1 f1 (ix3 g w k) = P (Y c arg1 f1) (4 * g.val + 1) (4 * w.val + 1) k
    ∧ run.sl.r_41 c arg1 f1 (ix3 g w k) = P (Y c arg1 f1) (4 * g.val + 2) (4 * w.val + 1) k
    ∧ run.sl.r_42 c arg1 f1 (ix3 g w k) = P (Y c arg1 f1) (4 * g.val + 3) (4 * w.val + 1) k
    ∧ run.sl.r_43 c arg1 f1 (ix3 g w k) = P (Y c arg1 f1) (4 * g.val) (4 * w.val + 2) k
    ∧ run.sl.r_44 c arg1 f1 (ix3 g w k) = P (Y c arg1 f1) (4 * g.val + 1) (4 * w.val + 2) k
    ∧ run.sl.r_45 c arg1 f1 (ix3 g w k) = P (Y c arg1 f1) (4 * g.val + 2) (4 * w.val + 2) k
    ∧ run.sl.r_46 c arg1 f1 (ix3 g w k) = P (Y c arg1 f1) (4 * g.val + 3) (4 * w.val + 2) k
    ∧ run.sl.r_47 c arg1 f1 (ix3 g w k) = P (Y c arg1 f1) (4 * g.val) (4 * w.val + 3) k
    ∧ run.sl.r_48 c arg1 f1 (ix3 g w k) = P (Y c arg1 f1) (4 * g.val + 1) (4 * w.val + 3) k
    ∧ run.sl.r_49 c arg1 f1 (ix3 g w k) = P (Y c arg1 f1) (4 * g.val + 2) (4 * w.val + 3) k
    ∧ run.sl.r_50 c arg1 f1 (ix3 g w k) = P (Y c arg1 f1) (4 * g.val + 3) (4 * w.val + 3) k := by
  unfold run.sl.r_50 run.sl.r_49 run.sl.r_48 run.sl.r_47 run.sl.r_46 run.sl.r_45 run.sl.r_44 run.sl.r_43 run.sl.r_42 run.sl.r_41 run.sl.r_40 run.sl.r_39 run.sl.r_38 run.sl.r_37 run.sl.r_36 run.sl.r_35 run.sl.r_34 run.sl.r_33 run.sl.r_32 run.sl.r_31 run.sl.r_30 run.sl.r_29 run.sl.r_28 run.sl.r_27 run.sl.r_26 run.sl.r_25 run.sl.r_24 run.sl.r_23 run.sl.r_22 run.sl.r_21 run.sl.r_20 run.sl.r_19 run.sl.r_18 run.sl.r_17 run.sl.r_16 run.sl.r_15 run.sl.r_14 run.sl.r_13 run.sl.r_12 run.sl.r_11 run.sl.r_10 run.sl.r_9 run.sl.r_8 run.sl.r_7 run.sl.r_6 run.sl.r_5 run.sl.r_4 run.sl.r_3 run.sl.r_2 run.sl.r_1
  unfold Y loaded P
  generalize View.readAt (Elt Ideal) arg1.view (Rect.unit ![0, 0, 0, 0] S1x64x512x96.size inb_S1x64x512x96_S1x64x512x96_0_0_0_0).toLoadRect f1 = v
  have hC := (tile_ZC v).H
  have hrow := rows_at v
  generalize H (tile v) = h at *
  repeat' apply And.intro
  all_goals
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp only [(hrow _ _ _ _).1, (hrow _ _ _ _).2.1, (hrow _ _ _ _).2.2.1, (hrow _ _ _ _).2.2.2]
    unfold W
    repeat' first | apply add3 | exact hC.out (by omega) | apply edge | apply same h | intro _
    all_goals first | omega | (simp; omega)

/-- The second level: row class `th` and column class `tw` of two. -/
theorem level2_at (g : Fin 8) (w : Fin 64) (k : Fin 96) :
    run.sl.r_57 c arg1 f1 (ix3 g w k) = P (P (Y c arg1 f1)) (2 * g.val) (2 * w.val) k
    ∧ run.sl.r_58 c arg1 f1 (ix3 g w k) = P (P (Y c arg1 f1)) (2 * g.val + 1) (2 * w.val) k
    ∧ run.sl.r_59 c arg1 f1 (ix3 g w k) = P (P (Y c arg1 f1)) (2 * g.val) (2 * w.val + 1) k
    ∧ run.sl.r_60 c arg1 f1 (ix3 g w k) = P (P (Y c arg1 f1)) (2 * g.val + 1) (2 * w.val + 1) k := by
  rw [← H_W (P (Y c arg1 f1))]
  unfold run.sl.r_60 run.sl.r_59 run.sl.r_58 run.sl.r_57 run.sl.r_56 run.sl.r_55 run.sl.r_54 run.sl.r_53 run.sl.r_52 run.sl.r_51 run.sl.r_50 run.sl.r_49 run.sl.r_46 run.sl.r_45 run.sl.r_38 run.sl.r_37 run.sl.r_36 run.sl.r_35 run.sl.r_34 run.sl.r_33 run.sl.r_32 run.sl.r_31 run.sl.r_30 run.sl.r_29 run.sl.r_28 run.sl.r_27 run.sl.r_26 run.sl.r_25 run.sl.r_24 run.sl.r_23 run.sl.r_22 run.sl.r_21 run.sl.r_20 run.sl.r_19 run.sl.r_18 run.sl.r_17 run.sl.r_16 run.sl.r_15 run.sl.r_14 run.sl.r_13 run.sl.r_12 run.sl.r_11 run.sl.r_10 run.sl.r_9 run.sl.r_8 run.sl.r_7 run.sl.r_6 run.sl.r_5 run.sl.r_4 run.sl.r_3 run.sl.r_2 run.sl.r_1
  unfold Y loaded P
  generalize View.readAt (Elt Ideal) arg1.view (Rect.unit ![0, 0, 0, 0] S1x64x512x96.size inb_S1x64x512x96_S1x64x512x96_0_0_0_0).toLoadRect f1 = v
  have hR := (tile_ZR v).H (n := 32)
  have hC := (tile_ZC v).H
  have hrow := rows_at v
  generalize H (tile v) = h at *
  repeat' apply And.intro
  all_goals
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    simp only [(hrow _ _ _ _).1, (hrow _ _ _ _).2.1, (hrow _ _ _ _).2.2.1, (hrow _ _ _ _).2.2.2]
    unfold H W
    repeat' first | apply zero3 | apply add3 | exact hC.out (by omega) | exact hR.out (by omega) | apply edge | apply same h | intro _
    all_goals first | omega | (simp; omega)

/-- The third level. -/
theorem level3_at (g : Fin 8) (w : Fin 64) (k : Fin 96) :
    run.sl.r_99 c arg1 f1 (ix3 g w k) = P (P (P (Y c arg1 f1))) g.val w.val k := by
  rw [← H_W (P (P (Y c arg1 f1)))]
  have hR : ZR (P (P (Y c arg1 f1))) 16 := (tile_ZR _ : ZR _ (2 * (2 * 16))).P.P
  have hC : ZC (P (P (Y c arg1 f1))) 128 := (tile_ZC _ : ZC _ (2 * (2 * 128))).P.P
  have h2 := level2_at c arg1 f1
  pointwise [run.sl.r_99, k0_pay124]
  generalize P (P (Y c arg1 f1)) = h at *
  simp only [(h2 _ _ _).1, (h2 _ _ _).2.1, (h2 _ _ _).2.2.1, (h2 _ _ _).2.2.2]
  unfold H W
  repeat' first | apply zero3 | apply add3 | exact hC.out (by omega) | exact hR.out (by omega) | apply edge | apply same h | intro _
  all_goals first | omega | (simp; omega)

end Cert.KernelIdeal.Pool

end
-- ==== Proof.Pool.Cross.lean ====
/- What one run of the body computes at the edge between two tiles: the rows that need both the rows carried from the tile before
   and the first rows of the staged block. -/
module

public import proofs.«01_k».proof.Proof.Pool.Tile
public import Idealize.ShloMosaic.Lib.VecWindow
public import Idealize.ShloMosaic.Lib.IdealHost

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic

/-- The scratch buffers hold what is pending of the field `A`, whose first 64 rows have been seen: the rows that the next tile's
    rows complete, and the two results' tiles but for their last rows. -/
structure Pending (c : Dev nD) (g : Scr Ideal c) (A : Fld) : Prop where
  c1a : ∀ (n : ℕ) (hn : n < 4) (w : Fin 64) (k : Fin 96),
    mC1.view.read (Elt Ideal) g.c1 (ix3 ⟨n, by omega⟩ w k) = P A 30 (4 * w.val + n) k
  c1b : ∀ (n : ℕ) (hn : n < 4) (w : Fin 64) (k : Fin 96),
    mC1.view.read (Elt Ideal) g.c1 (ix3 ⟨4 + n, by omega⟩ w k) = W A 62 (4 * w.val + n) k + W A 63 (4 * w.val + n) k
  c2 : ∀ (n : ℕ) (hn : n < 2) (w : Fin 64) (k : Fin 96),
    mC2.view.read (Elt Ideal) g.c2 (ix3 ⟨n, hn⟩ w k) = P (P A) 14 (2 * w.val + n) k
  o2 : ∀ (h : Fin 8) (th : Fin 2) (w : Fin 64) (n : ℕ) (hn : n < 2) (k : Fin 96), 2 * h.val + th.val < 15 →
    mO2.view.read (Elt Ideal) g.o2 (ix4 h th w ⟨96 * n + k.val, by omega⟩) = P (P A) (2 * h.val + th.val) (2 * w.val + n) k
  o3 : ∀ (h : Fin 8) (w : Fin 64) (k : Fin 96), h.val < 7 →
    mO3.view.read (Elt Ideal) g.o3 (ix3 h w k) = P (P (P A)) h.val w.val k

/-- The staged block, times the gate, goes on where the first 64 rows of `A` end. -/
structure Follows (c : Dev nD) (i : grid0.Coords) (arg1 : Memref sig .tc .vmem S1x64x512x96 .f32) (f1 : Ct Ideal c arg1) (A : Fld) : Prop where
  gate : run.sl.r_61 (F := Ideal) i = 0 ∨ run.sl.r_61 (F := Ideal) i = 1
  rows : ∀ (r q : ℕ) (k : Fin 96), r < 64 → run.sl.r_61 (F := Ideal) i * Y c arg1 f1 r q k = A (64 + r) q k
  cols : ZC A 512

variable {c : Dev nD} {arg1 : Memref sig .tc .vmem S1x64x512x96 .f32} {f1 : Ct Ideal c arg1} {g : Scr Ideal c} {i : grid0.Coords} {A : Fld}

/-- The gate passes through a sum of three. -/
theorem gate_add {x a b d : EReal} (h : x = 0 ∨ x = 1) : x * (a + b + d) = x * a + x * b + x * d := by
  rcases h with rfl | rfl <;> simp

/-- Column sums of the gated block are those of the field below the tile. -/
theorem Follows.W (h : Follows c i arg1 f1 A) (r q : ℕ) (k : Fin 96) (hr : r < 64) :
    run.sl.r_61 (F := Ideal) i * W (Y c arg1 f1) r q k = W A (64 + r) q k := by
  unfold Pool.W
  rw [gate_add h.gate, h.rows _ _ _ hr, h.rows _ _ _ hr, h.rows _ _ _ hr]

/-- And so are its poolings, up to the row that would need the tile after. -/
theorem Follows.P (h : Follows c i arg1 f1 A) (r q : ℕ) (k : Fin 96) (hr : r < 31) :
    run.sl.r_61 (F := Ideal) i * P (Y c arg1 f1) r q k = P A (32 + r) q k := by
  rw [← H_W, ← H_W]
  unfold H
  rw [gate_add h.gate, h.W _ _ _ (by omega), h.W _ _ _ (by omega), h.W _ _ _ (by omega)]
  exact add3 (same (Pool.W A) (by omega) rfl) (same (Pool.W A) (by omega) rfl) (same (Pool.W A) (by omega) rfl)

/-- A carried row, loaded and read at an index. -/
theorem row1 (f : Ct Ideal c mC1) (n : ℕ) (hn : n < 8) (inb) (w : Fin 64) (k : Fin 96) :
    View.readAt (Elt Ideal) mC1.view (Rect.unit (s := S8x64x96) ![n, 0, 0] ![1, 64, 96] inb).toLoadRect f (ix3 (0 : Fin 1) w k)
      = mC1.view.read (Elt Ideal) f (ix3 ⟨n, hn⟩ w k) := by
  rw [View.readAt_unit _ _ _ rfl inb]
  refine congrArg (mC1.view.read (Elt Ideal) f) (funext fun a => Fin.ext ?_)
  fin_cases a <;> simp [ix3]

/-- The carried second-level row, loaded and read at an index. -/
theorem row2 (f : Ct Ideal c mC2) (n : ℕ) (hn : n < 2) (inb) (w : Fin 64) (k : Fin 96) :
    View.readAt (Elt Ideal) mC2.view (Rect.unit (s := S2x64x96) ![n, 0, 0] ![1, 64, 96] inb).toLoadRect f (ix3 (0 : Fin 1) w k)
      = mC2.view.read (Elt Ideal) f (ix3 ⟨n, hn⟩ w k) := by
  rw [View.readAt_unit _ _ _ rfl inb]
  refine congrArg (mC2.view.read (Elt Ideal) f) (funext fun a => Fin.ext ?_)
  fin_cases a <;> simp [ix3]

/-- The rows carried from the tile before. -/
theorem old_at (hg : Pending c g A) (w : Fin 64) (k : Fin 96) :
    run.sl.r_62 c g (ix2 w k) = P A 30 (4 * w.val) k
    ∧ run.sl.r_63 c g (ix2 w k) = P A 30 (4 * w.val + 1) k
    ∧ run.sl.r_64 c g (ix2 w k) = P A 30 (4 * w.val + 2) k
    ∧ run.sl.r_65 c g (ix2 w k) = P A 30 (4 * w.val + 3) k
    ∧ run.sl.r_66 c g (ix2 w k) = W A 62 (4 * w.val) k + W A 63 (4 * w.val) k
    ∧ run.sl.r_67 c g (ix2 w k) = W A 62 (4 * w.val + 1) k + W A 63 (4 * w.val + 1) k
    ∧ run.sl.r_68 c g (ix2 w k) = W A 62 (4 * w.val + 2) k + W A 63 (4 * w.val + 2) k
    ∧ run.sl.r_69 c g (ix2 w k) = W A 62 (4 * w.val + 3) k + W A 63 (4 * w.val + 3) k
    ∧ run.sl.r_70 c g (ix2 w k) = P (P A) 14 (2 * w.val) k
    ∧ run.sl.r_71 c g (ix2 w k) = P (P A) 14 (2 * w.val + 1) k := by
  repeat' apply And.intro
  all_goals
    pointwise [run.sl.r_62, run.sl.r_63, run.sl.r_64, run.sl.r_65, run.sl.r_66, run.sl.r_67, run.sl.r_68, run.sl.r_69, run.sl.r_70, run.sl.r_71,
      k0_pay65, k0_pay66, k0_pay67, k0_pay68, k0_pay69, k0_pay70, k0_pay71, k0_pay72, k0_pay73, k0_pay74]
    first
    | exact (row1 _ _ (by omega) _ _ _).trans (hg.c1a _ (by omega) _ _)
    | exact (row1 _ _ (by omega) _ _ _).trans (hg.c1b 0 (by omega) _ _)
    | exact (row1 _ _ (by omega) _ _ _).trans (hg.c1b 1 (by omega) _ _)
    | exact (row1 _ _ (by omega) _ _ _).trans (hg.c1b 2 (by omega) _ _)
    | exact (row1 _ _ (by omega) _ _ _).trans (hg.c1b 3 (by omega) _ _)
    | exact (row2 _ _ (by omega) _ _ _).trans (hg.c2 _ (by omega) _ _)

/-- The last first-level row of the tile before, completed by the staged block's first row. -/
theorem row31_at (hg : Pending c g A) (hf : Follows c i arg1 f1 A) (w : Fin 64) (k : Fin 96) :
    run.sl.r_78 c i arg1 f1 g (ix2 w k) = P A 31 (4 * w.val) k
    ∧ run.sl.r_79 c i arg1 f1 g (ix2 w k) = P A 31 (4 * w.val + 1) k
    ∧ run.sl.r_80 c i arg1 f1 g (ix2 w k) = P A 31 (4 * w.val + 2) k
    ∧ run.sl.r_81 c i arg1 f1 g (ix2 w k) = P A 31 (4 * w.val + 3) k := by
  have ho := old_at hg
  have hW := hf.W 0 (k := k) (hr := by omega)
  rw [← H_W A]
  unfold H
  simp only [show 64 + 0 = 2 * 31 + 2 from rfl] at hW
  unfold run.sl.r_81 run.sl.r_80 run.sl.r_79 run.sl.r_78 run.sl.r_77 run.sl.r_76 run.sl.r_75 run.sl.r_74 run.sl.r_73 run.sl.r_72 run.sl.r
  unfold Y loaded at hW
  generalize View.readAt (Elt Ideal) arg1.view (Rect.unit ![0, 0, 0, 0] S1x64x512x96.size inb_S1x64x512x96_S1x64x512x96_0_0_0_0).toLoadRect f1 = v at *
  have hC := tile_ZC v
  have hv := tile_at v
  refine ⟨?_, ?_, ?_, ?_⟩
  all_goals
    pointwise [k0_pay83, k0_pay84, k0_pay85, k0_pay86, k0_pay75, k0_pay76, k0_pay77, k0_pay78, k0_pay79, k0_pay80, k0_pay81, k0_pay82, k0_pay2]
    simp only [(ho _ _).2.2.2.2.1, (ho _ _).2.2.2.2.2.1, (ho _ _).2.2.2.2.2.2.1, (ho _ _).2.2.2.2.2.2.2.1, hv]
    rw [← hW]
    refine congrArg₂ (· + ·) rfl (congrArg₂ (· * ·) rfl ?_)
    unfold W
    repeat' first | apply add3 | exact hC.out (by omega) | apply edge | apply same (tile v) | intro _
    all_goals first | rfl | omega | (simp; omega)

/-- The staged block's own first-level rows, gated. -/
theorem first_at (hf : Follows c i arg1 f1 A) (w : Fin 64) (k : Fin 96) :
    run.sl.r_82 c i arg1 f1 (ix2 w k) = P A 32 (4 * w.val) k
    ∧ run.sl.r_83 c i arg1 f1 (ix2 w k) = P A 32 (4 * w.val + 1) k
    ∧ run.sl.r_84 c i arg1 f1 (ix2 w k) = P A 32 (4 * w.val + 2) k
    ∧ run.sl.r_85 c i arg1 f1 (ix2 w k) = P A 32 (4 * w.val + 3) k
    ∧ run.sl.r_86 c i arg1 f1 (ix2 w k) = P A 33 (4 * w.val) k
    ∧ run.sl.r_87 c i arg1 f1 (ix2 w k) = P A 33 (4 * w.val + 1) k
    ∧ run.sl.r_88 c i arg1 f1 (ix2 w k) = P A 33 (4 * w.val + 2) k
    ∧ run.sl.r_89 c i arg1 f1 (ix2 w k) = P A 33 (4 * w.val + 3) k
    ∧ run.sl.r_90 c i arg1 f1 (ix2 w k) = P A 34 (4 * w.val) k
    ∧ run.sl.r_91 c i arg1 f1 (ix2 w k) = P A 34 (4 * w.val + 1) k
    ∧ run.sl.r_61 (F := Ideal) i * run.sl.r_45 c arg1 f1 (ix3 0 w k) = P A 34 (4 * w.val + 2) k
    ∧ run.sl.r_61 (F := Ideal) i * run.sl.r_49 c arg1 f1 (ix3 0 w k) = P A 34 (4 * w.val + 3) k := by
  obtain ⟨e0, e1, e2, -, e4, e5, e6, -, e8, e9, e10, -, e12, e13, e14, -⟩ := level1_at c arg1 f1 0 w k
  repeat' apply And.intro
  all_goals
    pointwise [run.sl.r_82, run.sl.r_83, run.sl.r_84, run.sl.r_85, run.sl.r_86, run.sl.r_87, run.sl.r_88, run.sl.r_89, run.sl.r_90, run.sl.r_91,
      k0_pay87, k0_pay88, k0_pay89, k0_pay90, k0_pay91, k0_pay92, k0_pay93, k0_pay94, k0_pay95, k0_pay96]
    simp only [e0, e1, e2, e4, e5, e6, e8, e9, e10, e12, e13, e14]
    exact hf.P _ _ _ (by simp)

/-- The second level at the edge: the last row of the tile before, and the first row of the staged block. -/
theorem level2_edge (hg : Pending c g A) (hf : Follows c i arg1 f1 A) (w : Fin 64) (k : Fin 96) :
    run.sl.r_93 c i arg1 f1 g (ix2 w k) = P (P A) 15 (2 * w.val) k
    ∧ run.sl.r_94 c i arg1 f1 g (ix2 w k) = P (P A) 15 (2 * w.val + 1) k
    ∧ run.sl.r_95 c i arg1 f1 (ix2 w k) = P (P A) 16 (2 * w.val) k
    ∧ run.sl.r_96 c i arg1 f1 (ix2 w k) = P (P A) 16 (2 * w.val + 1) k := by
  have ho := old_at hg
  have hr := row31_at hg hf
  have hn := first_at hf
  have hC : ZC (P A) 256 := (hf.cols : ZC A (2 * 256)).P
  rw [show P (P A) = W (H (P A)) from rfl]
  generalize P A = B at *
  repeat' apply And.intro
  all_goals
    pointwise [run.sl.r_93, run.sl.r_94, run.sl.r_95, run.sl.r_96, run.sl.r_92, k0_pay97, k0_pay98, k0_pay99, k0_pay100, k0_pay101, k0_pay102, k0_pay103, k0_pay104, k0_pay105]
    simp only [(ho _ _).1, (ho _ _).2.1, (ho _ _).2.2.1, (ho _ _).2.2.2.1, (hr _ _).1, (hr _ _).2.1, (hr _ _).2.2.1, (hr _ _).2.2.2,
      (hn _ _).1, (hn _ _).2.1, (hn _ _).2.2.1, (hn _ _).2.2.2.1, (hn _ _).2.2.2.2.1, (hn _ _).2.2.2.2.2.1, (hn _ _).2.2.2.2.2.2.1,
      (hn _ _).2.2.2.2.2.2.2.1, (hn _ _).2.2.2.2.2.2.2.2.1, (hn _ _).2.2.2.2.2.2.2.2.2.1, (hn _ _).2.2.2.2.2.2.2.2.2.2.1, (hn _ _).2.2.2.2.2.2.2.2.2.2.2]
    unfold W H
    repeat' first | apply zero3 | apply add3 | exact hC.out (by omega) | apply edge | apply same B | intro _
    all_goals first | omega | (simp; omega)

/-- The third level at the edge: the last row of the tile before. -/
theorem level3_edge (hg : Pending c g A) (hf : Follows c i arg1 f1 A) (w : Fin 64) (k : Fin 96) :
    k0_pay108 (run.sl.r_70 c g) (run.sl.r_71 c g) (run.sl.r_93 c i arg1 f1 g) (run.sl.r_94 c i arg1 f1 g) (run.sl.r_95 c i arg1 f1) (run.sl.r_96 c i arg1 f1)
      (ix3 0 w k) = P (P (P A)) 7 w.val k := by
  have ho := old_at hg
  have he := level2_edge hg hf
  have hC : ZC (P (P A)) 128 := (hf.cols : ZC A (2 * (2 * 128))).P.P
  rw [← H_W (P (P A))]
  generalize P (P A) = B at *
  pointwise [k0_pay108]
  simp only [(ho _ _).2.2.2.2.2.2.2.2.1, (ho _ _).2.2.2.2.2.2.2.2.2, (he _ _).1, (he _ _).2.1, (he _ _).2.2.1, (he _ _).2.2.2, zero_add]
  unfold H W
  repeat' first | apply zero3 | apply add3 | exact hC.out (by omega) | apply edge | apply same B | intro _
  all_goals first | omega | (simp; omega)

/-- The second level's last row of the tile before, with the column classes side by side. -/
theorem level2_row (hg : Pending c g A) (hf : Follows c i arg1 f1 A) (w : Fin 64) (n : ℕ) (hn : n < 2) (k : Fin 96) :
    k0_pay106 (run.sl.r_62 c g) (run.sl.r_63 c g) (run.sl.r_64 c g) (run.sl.r_65 c g) (run.sl.r_78 c i arg1 f1 g) (run.sl.r_79 c i arg1 f1 g)
      (run.sl.r_80 c i arg1 f1 g) (run.sl.r_81 c i arg1 f1 g) (run.sl.r_82 c i arg1 f1) (run.sl.r_83 c i arg1 f1) (run.sl.r_84 c i arg1 f1)
      (run.sl.r_85 c i arg1 f1) (ix4 0 0 w ⟨96 * n + k.val, by omega⟩) = P (P A) 15 (2 * w.val + n) k := by
  have he := level2_edge hg hf w k
  unfold run.sl.r_93 run.sl.r_94 at he
  pointwise [k0_pay106]
  have hk := k.isLt
  obtain rfl | rfl : n = 0 ∨ n = 1 := by omega
  · rw [dif_pos (by omega)]
    exact (congrArg _ (by congr 1; exact Fin.ext (by simp))).trans he.1
  · rw [dif_neg (by omega)]
    exact (congrArg _ (by congr 1; exact Fin.ext (by simp))).trans he.2.1

/-- The gate is shut at the first tile of each image and open at the others. -/
theorem gate_at (t : Fin grid0.N) : run.sl.r_61 (F := Ideal) (grid0.coords t) = if t.val % 8 = 0 then 0 else 1 := by
  unfold run.sl.r_61 k0_pay64
  have h : ∀ t : Fin grid0.N,
      Scalar.cmpi .eq
        (Scalar.select
          (Scalar.andi
            (Scalar.xori (Scalar.cmpi .slt (Scalar.remsi (BitVec.ofNat 32 (grid0.coords t 0).val) (Scalar.select (Scalar.cmpi .eq 8#32 0#32) 1#32 8#32)) 0#32)
              (Scalar.cmpi .slt (Scalar.select (Scalar.cmpi .eq 8#32 0#32) 1#32 8#32) 0#32))
            (Scalar.cmpi .ne (Scalar.remsi (BitVec.ofNat 32 (grid0.coords t 0).val) (Scalar.select (Scalar.cmpi .eq 8#32 0#32) 1#32 8#32)) 0#32))
          (Scalar.addi (Scalar.remsi (BitVec.ofNat 32 (grid0.coords t 0).val) (Scalar.select (Scalar.cmpi .eq 8#32 0#32) 1#32 8#32))
            (Scalar.select (Scalar.cmpi .eq 8#32 0#32) 1#32 8#32))
          (Scalar.remsi (BitVec.ofNat 32 (grid0.coords t 0).val) (Scalar.select (Scalar.cmpi .eq 8#32 0#32) 1#32 8#32)))
        0#32 = if t.val % 8 = 0 then 1#1 else 0#1 := by decide +kernel
  dsimp only
  rw [h t]
  by_cases ht : t.val % 8 = 0
  · rw [if_pos ht, if_pos ht]; exact (if_pos rfl).trans Ideal.ofBits_zero_f32
  · rw [if_neg ht, if_neg ht]; exact (if_neg (by decide)).trans Ideal.ofBits_one_f32

end Cert.KernelIdeal.Pool

end
-- ==== Proof.Pool.Pend.lean ====
/- What the body leaves in the four scratch buffers and in the two results' staging buffers, read at an index. -/
module

public import proofs.«01_k».proof.Proof.Pool.Data
public import proofs.«01_k».proof.Proof.Pool.Cross

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic

section Rows
variable {N : ℕ} {κ : Kind} {sp : Space} (v : View sig κ sp ⟨3, ![N, 64, 96]⟩ .f32) (f : v.ty.Contents (Elt Ideal))
variable (L : List (View.Piece (Elt Ideal) ⟨3, ![N, 64, 96]⟩ .f32)) (n : ℕ) (inb : ∀ a, (![n, 0, 0] : Fin 3 → ℕ) a + (![1, 64, 96] : Fin 3 → ℕ) a ≤ (⟨3, ![N, 64, 96]⟩ : Shape).size a)
variable (x : FVec Ideal ⟨3, ![1, 64, 96]⟩ .f32) (r : ℕ) (hr : r < N) (w : Fin 64) (k : Fin 96)

/-- A row just stored reads as what was stored. -/
theorem row_hit (h : r = n) :
    v.read (Elt Ideal) (v.writes (Elt Ideal) f (⟨Rect.unit (s := ⟨3, ![N, 64, 96]⟩) ![n, 0, 0] ![1, 64, 96] inb, x⟩ :: L)) (ix3 ⟨r, hr⟩ w k) = x (ix3 0 w k) :=
  View.read_writes_cons_unit_of_mem v f inb x L (ix3 ⟨r, hr⟩ w k) (ix3 (0 : Fin 1) w k) rfl (fun a => by fin_cases a <;> simp [ix3, h])

/-- The other rows are as they were. -/
theorem row_miss (h : r ≠ n) :
    v.read (Elt Ideal) (v.writes (Elt Ideal) f (⟨Rect.unit (s := ⟨3, ![N, 64, 96]⟩) ![n, 0, 0] ![1, 64, 96] inb, x⟩ :: L)) (ix3 ⟨r, hr⟩ w k)
      = v.read (Elt Ideal) (v.writes (Elt Ideal) f L) (ix3 ⟨r, hr⟩ w k) :=
  View.read_writes_cons_unit_of_not_mem v f inb x L (ix3 ⟨r, hr⟩ w k) rfl 0 (by show r < n ∨ n + 1 ≤ r; omega)

end Rows

variable {c : Dev nD} {t : Fin cfg0.N} {f1 : Ct Ideal c (s0 t)} {g : Scr Ideal c} {A : Fld}

/-- The carried rows as stored: row class 2 and row class 3 of the tile's last group of four rows, by column class. -/
theorem stored_at (w : Fin 64) (k : Fin 96) :
    k0_pay110 (run.sl.r_37 c (s0 t) f1) (ix3 0 w k) = P (Y c (s0 t) f1) 30 (4 * w.val) k
    ∧ run.sl.v389 c (s0 t) f1 (ix3 0 w k) = P (Y c (s0 t) f1) 30 (4 * w.val + 1) k
    ∧ run.sl.v399 c (s0 t) f1 (ix3 0 w k) = P (Y c (s0 t) f1) 30 (4 * w.val + 2) k
    ∧ run.sl.v409 c (s0 t) f1 (ix3 0 w k) = P (Y c (s0 t) f1) 30 (4 * w.val + 3) k
    ∧ run.sl.v384 c (s0 t) f1 (ix3 0 w k) = P (Y c (s0 t) f1) 31 (4 * w.val) k
    ∧ run.sl.v394 c (s0 t) f1 (ix3 0 w k) = P (Y c (s0 t) f1) 31 (4 * w.val + 1) k
    ∧ run.sl.v404 c (s0 t) f1 (ix3 0 w k) = P (Y c (s0 t) f1) 31 (4 * w.val + 2) k
    ∧ run.sl.v414 c (s0 t) f1 (ix3 0 w k) = P (Y c (s0 t) f1) 31 (4 * w.val + 3) k
    ∧ k0_pay120 (run.sl.v416 c (s0 t) f1) (ix3 0 w k) = P (P (Y c (s0 t) f1)) 14 (2 * w.val) k
    ∧ k0_pay121 (run.sl.r_59 c (s0 t) f1) (ix3 0 w k) = P (P (Y c (s0 t) f1)) 14 (2 * w.val + 1) k := by
  obtain ⟨-, -, e2, e3, -, -, e6, e7, -, -, e10, e11, -, -, e14, e15⟩ := level1_at c (s0 t) f1 7 w k
  obtain ⟨d0, -, d2, -⟩ := level2_at c (s0 t) f1 7 w k
  simp only [show 4 * (7 : Fin 8).val = 28 from rfl, show 2 * (7 : Fin 8).val = 14 from rfl, Nat.reduceAdd] at e2 e3 e6 e7 e10 e11 e14 e15 d0 d2
  refine ⟨?_, ?_, ?_, ?_, ?_, ?_, ?_, ?_, ?_, ?_⟩
  all_goals
    pointwise [k0_pay110, k0_pay120, k0_pay121, run.sl.v384, run.sl.v389, run.sl.v394, run.sl.v399, run.sl.v404, run.sl.v409, run.sl.v414, run.sl.v416,
      run.sl.r_98, k0_pay111, run.sl.v386, run.sl.v391, run.sl.v396, run.sl.v401, run.sl.v406, run.sl.v411, run.sl.v415,
      run.sl.v385, run.sl.v390, run.sl.v395, run.sl.v400, run.sl.v405, run.sl.v410]
    simp only [e2, e3, e6, e7, e10, e11, e14, e15, d0, d2]

/-- The tile's last first-level row, short of the next tile's row. -/
theorem short31 (hA : Agree A (Y c (s0 t) f1) 64) (q : ℕ) (k : Fin 96) :
    P (Y c (s0 t) f1) 31 q k = W A 62 q k + W A 63 q k := by
  rw [← H_W]
  unfold H
  rw [(tile_ZR (loaded c (s0 t) f1)).W.out (r := 2 * 31 + 2) (by omega), add_zero, hA.W _ _ _ (by omega), hA.W _ _ _ (by omega)]

/-- The carried first-level rows: row 30 complete, row 31 short of the next tile's row. -/
theorem left_c1 (hA : Agree A (Y c (s0 t) f1) 64) (n : ℕ) (hn : n < 4) (w : Fin 64) (k : Fin 96) :
    mC1.view.read (Elt Ideal) (left c t f1 g).scr.c1 (ix3 ⟨n, by omega⟩ w k) = P A 30 (4 * w.val + n) k
    ∧ mC1.view.read (Elt Ideal) (left c t f1 g).scr.c1 (ix3 ⟨4 + n, by omega⟩ w k) = W A 62 (4 * w.val + n) k + W A 63 (4 * w.val + n) k := by
  obtain ⟨e0, e1, e2, e3, e4, e5, e6, e7, -, -⟩ := stored_at (t := t) (f1 := f1) w k
  rw [(hA.P (m := 31) (by omega)) 30 _ k (by omega), ← short31 hA]
  unfold left run
  dsimp only
  unfold run.sl.H4_1
  obtain rfl | rfl | rfl | rfl : n = 0 ∨ n = 1 ∨ n = 2 ∨ n = 3 := by omega
  all_goals
    refine ⟨?_, ?_⟩
    all_goals
      repeat rw [row_miss _ _ _ _ _ _ _ _ _ _ (by decide)]
      rw [row_hit _ _ _ _ _ _ _ _ _ _ (by decide)]
      simp only [e0, e1, e2, e3, e4, e5, e6, e7, Nat.add_zero]

/-- The carried second-level row: row 14. -/
theorem left_c2 (hA : Agree A (Y c (s0 t) f1) 64) (n : ℕ) (hn : n < 2) (w : Fin 64) (k : Fin 96) :
    mC2.view.read (Elt Ideal) (left c t f1 g).scr.c2 (ix3 ⟨n, hn⟩ w k) = P (P A) 14 (2 * w.val + n) k := by
  obtain ⟨-, -, -, -, -, -, -, -, e8, e9⟩ := stored_at (t := t) (f1 := f1) w k
  rw [((hA.P (m := 31) (by omega)).P (m := 15) (by omega)) 14 _ k (by omega)]
  unfold left run
  dsimp only
  obtain rfl | rfl : n = 0 ∨ n = 1 := by omega
  all_goals
    repeat rw [row_miss _ _ _ _ _ _ _ _ _ _ (by decide)]
    rw [row_hit _ _ _ _ _ _ _ _ _ _ (by decide)]
    simp only [e8, e9, Nat.add_zero]

/-- The second level's tile as stored, row class by row class, the column classes side by side. -/
theorem pair_at (h : Fin 8) (w : Fin 64) (n : ℕ) (hn : n < 2) (k : Fin 96) :
    k0_pay122 (run.sl.r_57 c (s0 t) f1) (run.sl.r_59 c (s0 t) f1) (ix4 h 0 w ⟨96 * n + k.val, by omega⟩)
      = P (P (Y c (s0 t) f1)) (2 * h.val) (2 * w.val + n) k
    ∧ k0_pay123 (run.sl.r_58 c (s0 t) f1) (run.sl.r_60 c (s0 t) f1) (ix4 h 0 w ⟨96 * n + k.val, by omega⟩)
      = P (P (Y c (s0 t) f1)) (2 * h.val + 1) (2 * w.val + n) k := by
  obtain ⟨d0, d1, d2, d3⟩ := level2_at c (s0 t) f1 h w k
  have hk := k.isLt
  refine ⟨?_, ?_⟩
  all_goals
    pointwise [k0_pay122, k0_pay123]
    obtain rfl | rfl : n = 0 ∨ n = 1 := by omega
    · rw [dif_pos (by omega)]
      simp only [Nat.mul_zero, Nat.zero_add, Nat.add_zero, Fin.eta, d0, d1]
    · rw [dif_neg (by omega)]
      simp only [Nat.mul_one, Nat.add_sub_cancel_left, Fin.eta, d2, d3]

/-- The second level's tile in its buffer, but for its last row. -/
theorem left_o2 (hA : Agree A (Y c (s0 t) f1) 64) (h : Fin 8) (th : Fin 2) (w : Fin 64) (n : ℕ) (hn : n < 2) (k : Fin 96) (hh : 2 * h.val + th.val < 15) :
    mO2.view.read (Elt Ideal) (left c t f1 g).scr.o2 (ix4 h th w ⟨96 * n + k.val, by omega⟩) = P (P A) (2 * h.val + th.val) (2 * w.val + n) k := by
  obtain ⟨d0, d1⟩ := pair_at (t := t) (f1 := f1) h w n hn k
  rw [((hA.P (m := 31) (by omega)).P (m := 15) (by omega)) _ _ k hh]
  unfold left run
  dsimp only
  obtain rfl | rfl : th = 0 ∨ th = 1 := by omega
  · refine (View.read_writes_cons_unit_of_not_mem _ _ _ _ _ _ rfl 1 (by simp [ix4])).trans ?_
    refine (View.read_writes_cons_unit_of_mem _ _ _ _ _ _ (ix4 h (0 : Fin 1) w ⟨96 * n + k.val, by omega⟩) rfl (fun a => by fin_cases a <;> simp [ix4])).trans ?_
    exact d0
  · refine (View.read_writes_cons_unit_of_mem _ _ _ _ _ _ (ix4 h (0 : Fin 1) w ⟨96 * n + k.val, by omega⟩) rfl (fun a => by fin_cases a <;> simp [ix4])).trans ?_
    exact d1

/-- The third level's tile in its buffer, but for its last row. -/
theorem left_o3 (hA : Agree A (Y c (s0 t) f1) 64) (h : Fin 8) (w : Fin 64) (k : Fin 96) (hh : h.val < 7) :
    mO3.view.read (Elt Ideal) (left c t f1 g).scr.o3 (ix3 h w k) = P (P (P A)) h.val w.val k := by
  rw [(((hA.P (m := 31) (by omega)).P (m := 15) (by omega)).P (m := 7) (by omega)) _ _ k hh]
  unfold left run
  dsimp only
  refine (View.read_writes_cons_unit_of_mem _ _ _ _ _ _ (ix3 h w k) rfl (fun a => by fin_cases a <;> simp [ix3])).trans ?_
  pointwise [k0_pay1]
  exact level3_at c (s0 t) f1 h w k

/-- After a run the scratch buffers hold what is pending of any field that goes on from the tile. -/
theorem pending_left (hA : Agree A (Y c (s0 t) f1) 64) : Pending c (left c t f1 g).scr A where
  c1a n hn w k := (left_c1 hA n hn w k).1
  c1b n hn w k := (left_c1 hA n hn w k).2
  c2 := left_c2 hA
  o2 h th w n hn k hh := left_o2 hA h th w n hn k hh
  o3 := left_o3 hA

/-- The second level's result as a run leaves it: the tile before, complete. -/
theorem out2_at (hg : Pending c g A) (hf : Follows c (grid0.coords t) (s0 t) f1 A) (f2 : Ct Ideal c (s1 t)) (h : Fin 8) (th : Fin 2) (w : Fin 64)
    (n : ℕ) (hn : n < 2) (k : Fin 96) :
    (s1 t).view.read (Elt Ideal) ((s1 t).view.writes (Elt Ideal) f2 (left c t f1 g).out2) (ix5 0 h th w ⟨96 * n + k.val, by omega⟩)
      = P (P A) (2 * h.val + th.val) (2 * w.val + n) k := by
  unfold left run
  dsimp only
  unfold run.sl.H2_1
  rw [View.read_writes_full]
  pointwise [k0_pay107]
  unfold run.sl.r_97
  rw [View.readAt_full]
  unfold run.sl.H6_1
  by_cases hh : 2 * h.val + th.val < 15
  · refine Eq.trans ?_ (hg.o2 h th w n hn k hh)
    obtain h0 | h1 : h.val < 7 ∨ th.val < 1 := by omega
    · exact View.read_writes_cons_unit_of_not_mem _ _ _ _ _ _ rfl 0 (Or.inl h0)
    · exact View.read_writes_cons_unit_of_not_mem _ _ _ _ _ _ rfl 1 (Or.inl h1)
  · obtain ⟨rfl, rfl⟩ : h = 7 ∧ th = 1 := by omega
    refine (View.read_writes_cons_unit_of_mem _ _ _ _ _ _ (ix4 (0 : Fin 1) (0 : Fin 1) w ⟨96 * n + k.val, by omega⟩) rfl (fun a => by fin_cases a <;> simp [ix4])).trans ?_
    exact level2_row hg hf w n hn k

/-- The third level's result as a run leaves it: the tile before, complete. -/
theorem out3_at (hg : Pending c g A) (hf : Follows c (grid0.coords t) (s0 t) f1 A) (f3 : Ct Ideal c (s2 t)) (h : Fin 8) (w : Fin 64) (k : Fin 96) :
    (s2 t).view.read (Elt Ideal) ((s2 t).view.writes (Elt Ideal) f3 (left c t f1 g).out3) (ix4 0 h w k) = P (P (P A)) h.val w.val k := by
  unfold left run
  dsimp only
  unfold run.sl.H3_1
  rw [View.read_writes_full]
  pointwise [k0_pay109]
  unfold run.sl.H7_1
  rw [View.readAt_full]
  by_cases hh : h.val < 7
  · refine Eq.trans ?_ (hg.o3 h w k hh)
    exact View.read_writes_cons_unit_of_not_mem _ _ _ _ _ _ rfl 0 (Or.inl hh)
  · obtain rfl : h = 7 := by omega
    refine (View.read_writes_cons_unit_of_mem _ _ _ _ _ _ (ix3 (0 : Fin 1) w k) rfl (fun a => by fin_cases a <;> simp [ix3])).trans ?_
    exact level3_edge hg hf w k

end Cert.KernelIdeal.Pool

end
-- ==== Proof.Pool.Value.lean ====
/- The two results' arrays after the run, as poolings of the images. -/
module

public import proofs.«01_k».proof.Proof.Pool.Pend
public import Idealize.ShloMosaic.Lib.Pipeline.ArrRel
public import Idealize.ShloMosaic.Lib.Pipeline.ValueKit

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.ShloMosaic.Pipeline (Dat RDat)

/-- Image `b` as a field, zero outside; no image at all is zero. -/
def img (x : FVec Ideal S4x512x512x96 .f32) (b : ℕ) : Fld := fun r q k =>
  if h : b < 4 ∧ r < 512 ∧ q < 512 then x (ix4 ⟨b, h.1⟩ ⟨r, h.2.1⟩ ⟨q, h.2.2⟩ k) else 0

/-- Inside, the field is the image. -/
theorem img_at (x : FVec Ideal S4x512x512x96 .f32) (b : Fin 4) (r q : Fin 512) (k : Fin 96) : x (ix4 b r q k) = img x b.val r.val q.val k := by
  unfold img; rw [dif_pos ⟨b.isLt, r.isLt, q.isLt⟩]
/-- The image's field ends at row 512. -/
theorem img_ZR (x : FVec Ideal S4x512x512x96 .f32) (b : ℕ) : ZR (img x b) 512 := fun r q k h => by
  unfold img; rw [dif_neg (by omega)]
/-- The image's field ends at column 512. -/
theorem img_ZC (x : FVec Ideal S4x512x512x96 .f32) (b : ℕ) : ZC (img x b) 512 := fun r q k h => by
  unfold img; rw [dif_neg (by omega)]

variable (m : (ℓ : Loc nD τ sig) → Buf (Elt Ideal) ℓ) (c : Dev nD)

/-- The images. -/
abbrev imgs : FVec Ideal S4x512x512x96 .f32 := m ((c : Thread nD τ).loc main_arg0)

/-- Where each point's blocks lie: the input's tile of the point (the last one again at the end), the results' tile of the point before. -/
theorem idx : ∀ t : Fin cfg0.N,
    win0_0.index t = ![(if t.val < 32 then t.val else 31) / 8, (if t.val < 32 then t.val else 31) % 8, 0, 0]
    ∧ win0_1.index t = ![(t.val - 1) / 8, (t.val - 1) % 8, 0, 0, 0] ∧ win0_2.index t = ![(t.val - 1) / 8, (t.val - 1) % 8, 0, 0] :=
  (by decide +kernel : ∀ t : Fin grid0.N,
    win0_0.index t = ![(if t.val < 32 then t.val else 31) / 8, (if t.val < 32 then t.val else 31) % 8, 0, 0]
    ∧ win0_1.index t = ![(t.val - 1) / 8, (t.val - 1) % 8, 0, 0, 0] ∧ win0_2.index t = ![(t.val - 1) / 8, (t.val - 1) % 8, 0, 0])

/-- No result is written back at the first point. -/
theorem flushed_pos : ∀ t : Fin cfg0.N, (cfg0.win 1).flush t = true ∨ (cfg0.win 2).flush t = true → t.val ≠ 0 :=
  (by decide +kernel : ∀ t : Fin grid0.N, win0_1.flush t = true ∨ win0_2.flush t = true → t.val ≠ 0)

variable {m c}

/-- The tile staged at a point before the last, as rows of its image. -/
theorem staged_rows {t : Fin cfg0.N} {f1 : Ct Ideal c (s0 t)} (h : Staged m c t f1) (ht : t.val < 32) :
    Agree (down (64 * (t.val % 8)) (img (imgs m c) (t.val / 8))) (Y c (s0 t) f1) 64 := by
  intro r q k hr
  unfold Y loaded
  rw [View.readAt_full, h]
  by_cases hq : q < 512
  · rw [show tile (iblk m c 0 t) r q k = (iblk m c 0 t : Vec Ideal S1x64x512x96 .f32) (ix4 0 ⟨r, hr⟩ ⟨q, hq⟩ k) from (tile_at _ ⟨r, hr⟩ ⟨q, hq⟩ k).symm]
    have hb : 64 * (t.val % 8) + r < 512 := by omega
    refine (img_at (imgs m c) ⟨t.val / 8, by omega⟩ ⟨64 * (t.val % 8) + r, hb⟩ ⟨q, hq⟩ k).symm.trans ?_
    symm
    blk_simp [iblk, V]
    blk_ext [idx t, if_pos ht]
  · rw [(tile_ZC _).out (by omega)]
    exact (img_ZC _ _).out (by omega)

/-- The staged tile goes on where the tile before ends; past an image's last tile there are zeros. -/
theorem follows {t t' : Fin cfg0.N} {f1 : Ct Ideal c (s0 t)} (h : Staged m c t f1) (ht : t'.val + 1 = t.val) :
    Follows c (grid0.coords t) (s0 t) f1 (down (64 * (t'.val % 8)) (img (imgs m c) (t'.val / 8))) where
  gate := by rw [gate_at]; split <;> simp
  rows r q k hr := by
    have hN : t.val < 33 := lt_of_lt_of_eq t.isLt N_0
    rw [gate_at]
    by_cases h8 : t.val % 8 = 0
    · rw [if_pos h8, zero_mul]
      exact ((img_ZR _ _).out (by omega)).symm
    · rw [if_neg h8, one_mul, ← staged_rows h (by omega) r q k hr]
      unfold down
      rw [show t.val / 8 = t'.val / 8 by omega]
      exact same _ (by omega) rfl
  cols r q k hq := (img_ZC _ _).out hq

/-- The second level's result at a point, when it is written back: the tile of the point before. -/
theorem rl1_at {t : Fin cfg0.N} (ht : t.val ≠ 0) {X : S1x8x2x64x192.Idx → EReal} (hX : Rl1 m c t X) (y : S1x8x2x64x192.Idx) :
    X y = P (P (img (imgs m c) ((t.val - 1) / 8))) (16 * ((t.val - 1) % 8) + (2 * (y 1).val + (y 2).val)) (2 * (y 3).val + (y 4).val / 96)
      ⟨(y 4).val % 96, Nat.mod_lt _ (by omega)⟩ := by
  obtain ⟨f1, g, f2, hs, hc, rfl⟩ := hX
  obtain h0 | ⟨t', f1', h', ht', hs', rfl⟩ := hc
  · exact absurd h0 ht
  have hN : t.val < 33 := lt_of_lt_of_eq t.isLt N_0
  have h4 : (y 4).val < 192 := (y 4).isLt
  have hp := pending_left (g := h') (staged_rows hs' (by omega))
  have ho := out2_at hp (follows hs ht') f2 (y 1) (y 2) (y 3) ((y 4).val / 96) (by omega) ⟨(y 4).val % 96, Nat.mod_lt _ (by omega)⟩
  have hy : y = ix5 0 (y 1) (y 2) (y 3) ⟨96 * ((y 4).val / 96) + (y 4).val % 96, by omega⟩ := funext fun a => by
    match a with
    | ⟨0, _⟩ => exact Subsingleton.elim (α := Fin 1) _ _
    | ⟨1, _⟩ | ⟨2, _⟩ | ⟨3, _⟩ => rfl
    | ⟨4, _⟩ => exact Fin.ext (Nat.div_add_mod _ _).symm
  refine (congrArg _ hy).trans (ho.trans ?_)
  rw [show 64 * (t'.val % 8) = 2 * (2 * (16 * (t'.val % 8))) by omega, P_down, P_down, show t.val - 1 = t'.val by omega]
  rfl

/-- The third level's result at a point, when it is written back: the tile of the point before. -/
theorem rl2_at {t : Fin cfg0.N} (ht : t.val ≠ 0) {X : S1x8x64x96.Idx → EReal} (hX : Rl2 m c t X) (y : S1x8x64x96.Idx) :
    X y = P (P (P (img (imgs m c) ((t.val - 1) / 8)))) (8 * ((t.val - 1) % 8) + (y 1).val) (y 2).val (y 3) := by
  obtain ⟨f1, g, f3, hs, hc, rfl⟩ := hX
  obtain h0 | ⟨t', f1', h', ht', hs', rfl⟩ := hc
  · exact absurd h0 ht
  have hN : t.val < 33 := lt_of_lt_of_eq t.isLt N_0
  have hp := pending_left (g := h') (staged_rows hs' (by omega))
  have ho := out3_at hp (follows hs ht') f3 (y 1) (y 2) (y 3)
  have hy : y = ix4 0 (y 1) (y 2) (y 3) := funext fun a => by
    match a with
    | ⟨0, _⟩ => exact Subsingleton.elim (α := Fin 1) _ _
    | ⟨1, _⟩ | ⟨2, _⟩ | ⟨3, _⟩ => rfl
  refine (congrArg _ hy).trans (ho.trans ?_)
  rw [show 64 * (t'.val % 8) = 2 * (2 * (2 * (8 * (t'.val % 8)))) by omega, P_down, P_down, P_down, show t.val - 1 = t'.val by omega]
  rfl

/-- The second level, laid out as the kernel writes it: row and column classes beside the groups. -/
def lvl2 (x : FVec Ideal S4x512x512x96 .f32) : FVec Ideal S4x64x2x64x192 .f32 := fun i =>
  P (P (img x (i 0).val)) (2 * (i 1).val + (i 2).val) (2 * (i 3).val + (i 4).val / 96) ⟨(i 4).val % 96, Nat.mod_lt _ (by omega)⟩

/-- The third level. -/
def lvl3 (x : FVec Ideal S4x512x512x96 .f32) : FVec Ideal S4x64x64x96 .f32 := fun i =>
  P (P (P (img x (i 0).val))) (i 1).val (i 2).val ⟨(i 3).val, (i 3).isLt⟩

/-- Whatever the second level's array may hold at the end is the second level of the images. -/
theorem arr1 {A : Buf (Elt Ideal) ((cfg0.win 1).arr.view.loc (c.tc : Thread nD τ))} (hA : (rdat m c).ArrAt 1 cfg0.N A) : A = lvl2 (imgs m c) := by
  obtain ⟨X, hX, hE⟩ := hA.exists_exact
  rw [hE (Function.update (fun _ _ _ => Classical.arbitrary _) 1 X) fun u _ _ => by rw [Function.update_self]]
  refine Dat.arrAt_eq_of_covers _ 1 _ (by decide +kernel) fun t hf y => ?_
  have ht := flushed_pos t (Or.inl hf)
  have hr := rl1_at ht ((dat m c).toRRel_leaves (w := 1) rfl (hX t t.isLt hf))
  rw [RDat.withAfter_after, Function.update_self]
  blk_simp
  rw [hr]
  unfold lvl2
  blk_simp [idx t]
  exact same _ (by omega) rfl

/-- Whatever the third level's array may hold at the end is the third level of the images. -/
theorem arr2 {A : Buf (Elt Ideal) ((cfg0.win 2).arr.view.loc (c.tc : Thread nD τ))} (hA : (rdat m c).ArrAt 2 cfg0.N A) : A = lvl3 (imgs m c) := by
  obtain ⟨X, hX, hE⟩ := hA.exists_exact
  rw [hE (Function.update (fun _ _ _ => Classical.arbitrary _) 2 X) fun u _ _ => by rw [Function.update_self]]
  refine Dat.arrAt_eq_of_covers _ 2 _ (by decide +kernel) fun t hf y => ?_
  have ht := flushed_pos t (Or.inr hf)
  have hr := rl2_at ht ((dat m c).toRRel_leaves (w := 2) rfl (hX t t.isLt hf))
  rw [RDat.withAfter_after, Function.update_self]
  blk_simp
  rw [hr]
  unfold lvl3
  blk_simp [idx t]
  exact same _ (by omega) rfl

end Cert.KernelIdeal.Pool

end
-- ==== Proof.Pool.Window.lean ====
/- The reference's 3×3 window sum with stride 2, padded at the end by one row and one column, as the pooling of a field. -/
module

public import proofs.«01_k».proof.Proof.Pool.Fields
public import Idealize.ShloMosaic.Lib.Decide

@[expose] public section

set_option maxRecDepth 16384

noncomputable section

namespace Cert.KernelIdeal.Pool

open Idealize.ShloMosaic

/-- Four images of `M` rows and `M` columns, one of them as a field, zero outside. -/
def fld {M : ℕ} (x : FVec Ideal ⟨4, ![4, M, M, 96]⟩ .f32) (b : Fin 4) : Fld := fun r q k =>
  if h : r < M ∧ q < M then x (ix4 b ⟨r, h.1⟩ ⟨q, h.2⟩ k) else 0

/-- The window's nine positions, row by row. -/
theorem window_pos : ∀ n : Fin (⟨4, ![1, 3, 3, 1]⟩ : Shape).numel,
    ((⟨4, ![1, 3, 3, 1]⟩ : Shape).rowMajor.symm n 0).val = 0 ∧ ((⟨4, ![1, 3, 3, 1]⟩ : Shape).rowMajor.symm n 1).val = n.val / 3
    ∧ ((⟨4, ![1, 3, 3, 1]⟩ : Shape).rowMajor.symm n 2).val = n.val % 3 ∧ ((⟨4, ![1, 3, 3, 1]⟩ : Shape).rowMajor.symm n 3).val = 0 := by
  decide +kernel

/-- Nine numbers added up from zero. -/
theorem fold9 (g : ℕ → EReal) : (List.finRange 9).foldl (fun s n => s + g n.val) 0 = g 0 + g 1 + g 2 + g 3 + g 4 + g 5 + g 6 + g 7 + g 8 :=
  congrArg (fun s => s + g 1 + g 2 + g 3 + g 4 + g 5 + g 6 + g 7 + g 8) (zero_add (g 0))

/-- The window sum at an index is the pooled field there. -/
theorem window_at {M N : ℕ} (x : FVec Ideal ⟨4, ![4, M, M, 96]⟩ .f32) (v : (⟨0, ![]⟩ : Shape).Idx → EReal)
    (h : (⟨4, ![4, M, M, 96]⟩ : Shape).ReduceWindows (![1, 3, 3, 1] : Fin 4 → ℕ) ![1, 2, 2, 1] ![0, 0, 0, 0] ![0, 1, 1, 0] ⟨4, ![4, N, N, 96]⟩)
    (hu : 0 < (⟨0, ![]⟩ : Shape).numel) (hv : ∀ i, v i = 0) (b : Fin 4) (r q : Fin N) (k : Fin 96) :
    Host.reduceWindowAdd (F := Ideal) (φ := .f32) ![1, 3, 3, 1] ![1, 2, 2, 1] ![0, 0, 0, 0] ![0, 1, 1, 0] x v h hu (ix4 b r q k)
      = P (fld x b) r.val q.val k := by
  show Ideal.hostReduceWindowAdd _ _ _ _ h x (v _) (ix4 b r q k) = _
  rw [hv]
  unfold Ideal.hostReduceWindowAdd Host.reduceWindow
  refine (List.foldl_ext _ (fun s n => s + fld x b (2 * r.val + n.val / 3) (2 * q.val + n.val % 3) k) _ fun s n _ => congrArg (s + ·) ?_).trans ?_
  · dsimp only
    obtain ⟨p0, p1, p2, p3⟩ := window_pos n
    unfold fld
    by_cases hc : 2 * r.val + n.val / 3 < M ∧ 2 * q.val + n.val % 3 < M
    · rw [dif_pos hc, dif_pos fun a => by
        match a with
        | ⟨0, _⟩ => exact ⟨Nat.zero_le _, by show b.val * 1 + ((⟨4, ![1, 3, 3, 1]⟩ : Shape).rowMajor.symm n 0).val - 0 < 4; omega⟩
        | ⟨1, _⟩ => exact ⟨Nat.zero_le _, by show r.val * 2 + ((⟨4, ![1, 3, 3, 1]⟩ : Shape).rowMajor.symm n 1).val - 0 < M; omega⟩
        | ⟨2, _⟩ => exact ⟨Nat.zero_le _, by show q.val * 2 + ((⟨4, ![1, 3, 3, 1]⟩ : Shape).rowMajor.symm n 2).val - 0 < M; omega⟩
        | ⟨3, _⟩ => exact ⟨Nat.zero_le _, by show k.val * 1 + ((⟨4, ![1, 3, 3, 1]⟩ : Shape).rowMajor.symm n 3).val - 0 < 96; omega⟩]
      refine congrArg x (funext fun a => Fin.ext ?_)
      match a with
      | ⟨0, _⟩ => show b.val * 1 + ((⟨4, ![1, 3, 3, 1]⟩ : Shape).rowMajor.symm n 0).val - 0 = b.val; omega
      | ⟨1, _⟩ => show r.val * 2 + ((⟨4, ![1, 3, 3, 1]⟩ : Shape).rowMajor.symm n 1).val - 0 = 2 * r.val + n.val / 3; omega
      | ⟨2, _⟩ => show q.val * 2 + ((⟨4, ![1, 3, 3, 1]⟩ : Shape).rowMajor.symm n 2).val - 0 = 2 * q.val + n.val % 3; omega
      | ⟨3, _⟩ => show k.val * 1 + ((⟨4, ![1, 3, 3, 1]⟩ : Shape).rowMajor.symm n 3).val - 0 = k.val; omega
    · rw [dif_neg hc, dif_neg fun hin => hc ⟨by
          have h1 : r.val * 2 + ((⟨4, ![1, 3, 3, 1]⟩ : Shape).rowMajor.symm n 1).val - 0 < M := (hin 1).2
          omega, by
          have h2 : q.val * 2 + ((⟨4, ![1, 3, 3, 1]⟩ : Shape).rowMajor.symm n 2).val - 0 < M := (hin 2).2
          omega⟩]
  generalize fld x b = f
  refine (fold9 fun n => f (2 * r.val + n / 3) (2 * q.val + n % 3) k).trans ?_
  simp only [Nat.reduceDiv, Nat.reduceMod, Nat.zero_div, Nat.zero_mod]
  unfold P W H
  beta_reduce
  simp only [Nat.add_zero]
  ac_rfl

end Cert.KernelIdeal.Pool

end
-- ==== Proof.Pool.Result.lean ====
/- The two results, of the kernel's runs and of the reference's three window sums, as poolings of the images. -/
module

public import proofs.«01_k».proof.Proof.Pool.Launch
public import proofs.«01_k».proof.Proof.Pool.Value
public import proofs.«01_k».proof.Proof.Pool.Window
public import Idealize.ShloMosaic.Lib.Claim
public import Idealize.ShloMosaic.Lib.Pipeline.Value

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL.Sem
open Idealize.ShloMosaic.Pipeline

/-! ## The reference's levels -/

/-- An array whose entries are a field's, the field being zero outside it, is that field. -/
theorem fld_eq {M : ℕ} {x : FVec Ideal ⟨4, ![4, M, M, 96]⟩ .f32} {b : Fin 4} {f : Fld} (hr : ZR f M) (hc : ZC f M)
    (h : ∀ r q k, x (ix4 b r q k) = f r.val q.val k) : fld x b = f := by
  funext r q k
  unfold fld
  by_cases hb : r < M ∧ q < M
  · rw [dif_pos hb, h]
  · rw [dif_neg hb]
    by_cases h1 : r < M
    · exact (hc r q k (by omega)).symm
    · exact (hr r q k (by omega)).symm

/-- The window sum of an array, as a field. -/
theorem fld_window {N : ℕ} (x : FVec Ideal ⟨4, ![4, 2 * N, 2 * N, 96]⟩ .f32) (v : (⟨0, ![]⟩ : Shape).Idx → EReal)
    (h : (⟨4, ![4, 2 * N, 2 * N, 96]⟩ : Shape).ReduceWindows (![1, 3, 3, 1] : Fin 4 → ℕ) ![1, 2, 2, 1] ![0, 0, 0, 0] ![0, 1, 1, 0] ⟨4, ![4, N, N, 96]⟩)
    (hu : 0 < (⟨0, ![]⟩ : Shape).numel) (hv : ∀ i, v i = 0) (b : Fin 4) {f : Fld} (hf : fld x b = f) (hr : ZR f (2 * N)) (hc : ZC f (2 * N)) :
    fld (Host.reduceWindowAdd (F := Ideal) (φ := .f32) ![1, 3, 3, 1] ![1, 2, 2, 1] ![0, 0, 0, 0] ![0, 1, 1, 0] x v h hu) b = P f :=
  fld_eq hr.P hc.P fun r q k => (window_at x v h hu hv b r q k).trans (by rw [hf])

/-- The image argument, as a field. -/
theorem fld_img (x : FVec Ideal S4x512x512x96 .f32) (b : Fin 4) : fld (M := 512) x b = img x b.val :=
  fld_eq (img_ZR x b.val) (img_ZC x b.val) fun r q k => img_at x b r q k

/-- The image pooled twice, as the first result holds it. -/
def res2 (x : FVec Ideal S4x512x512x96 .f32) : FVec Ideal S4x128x128x96 .f32 := fun i =>
  P (P (img x (i 0).val)) (i 1).val (i 2).val ⟨(i 3).val, (i 3).isLt⟩

section
variable (x : FVec Ideal S4x512x512x96 .f32) (v1 v2 v3 : (⟨0, ![]⟩ : Shape).Idx → EReal) (hv1 : ∀ i, v1 i = 0) (hv2 : ∀ i, v2 i = 0) (hv3 : ∀ i, v3 i = 0)
  (h1 : (⟨4, ![4, 512, 512, 96]⟩ : Shape).ReduceWindows (![1, 3, 3, 1] : Fin 4 → ℕ) ![1, 2, 2, 1] ![0, 0, 0, 0] ![0, 1, 1, 0] ⟨4, ![4, 256, 256, 96]⟩)
  (h2 : (⟨4, ![4, 256, 256, 96]⟩ : Shape).ReduceWindows (![1, 3, 3, 1] : Fin 4 → ℕ) ![1, 2, 2, 1] ![0, 0, 0, 0] ![0, 1, 1, 0] ⟨4, ![4, 128, 128, 96]⟩)
  (h3 : (⟨4, ![4, 128, 128, 96]⟩ : Shape).ReduceWindows (![1, 3, 3, 1] : Fin 4 → ℕ) ![1, 2, 2, 1] ![0, 0, 0, 0] ![0, 1, 1, 0] ⟨4, ![4, 64, 64, 96]⟩)
  (hu : 0 < (⟨0, ![]⟩ : Shape).numel)

include hv1 hv2

/-- The reference's second level is the image pooled twice. -/
theorem ref2 : Host.reduceWindowAdd (F := Ideal) (φ := .f32) ![1, 3, 3, 1] ![1, 2, 2, 1] ![0, 0, 0, 0] ![0, 1, 1, 0]
      (Host.reduceWindowAdd (F := Ideal) (φ := .f32) ![1, 3, 3, 1] ![1, 2, 2, 1] ![0, 0, 0, 0] ![0, 1, 1, 0] x v1 h1 hu) v2 h2 hu = res2 x := by
  funext i
  have e1 := fld_window (N := 256) x v1 h1 hu hv1 (i 0) (fld_img x (i 0)) (img_ZR x _) (img_ZC x _)
  refine (congrArg _ (eq_ix4 i)).trans ((window_at (M := 256) (N := 128) _ v2 h2 hu hv2 (i 0) (i 1) (i 2) (i 3)).trans ?_)
  rw [e1]; rfl

include hv3

/-- The reference's third level is the image pooled three times. -/
theorem ref3 : Host.reduceWindowAdd (F := Ideal) (φ := .f32) ![1, 3, 3, 1] ![1, 2, 2, 1] ![0, 0, 0, 0] ![0, 1, 1, 0]
      (Host.reduceWindowAdd (F := Ideal) (φ := .f32) ![1, 3, 3, 1] ![1, 2, 2, 1] ![0, 0, 0, 0] ![0, 1, 1, 0]
        (Host.reduceWindowAdd (F := Ideal) (φ := .f32) ![1, 3, 3, 1] ![1, 2, 2, 1] ![0, 0, 0, 0] ![0, 1, 1, 0] x v1 h1 hu) v2 h2 hu) v3 h3 hu = lvl3 x := by
  funext i
  have z1 : ZR (P (img x (i 0).val)) 256 := ZR.P (img_ZR x _)
  have z2 : ZC (P (img x (i 0).val)) 256 := ZC.P (img_ZC x _)
  have e1 := fld_window (N := 256) x v1 h1 hu hv1 (i 0) (fld_img x (i 0)) (img_ZR x _) (img_ZC x _)
  have e2 := fld_window (N := 128) _ v2 h2 hu hv2 (i 0) e1 z1 z2
  refine (congrArg _ (eq_ix4 i)).trans ((window_at (M := 128) (N := 64) _ v3 h3 hu hv3 (i 0) (i 1) (i 2) (i 3)).trans ?_)
  rw [e2]; rfl
end

/-! ## The kernel's results -/

/-- The second level flattened by the host is the image pooled twice. -/
theorem flat (x : FVec Ideal S4x512x512x96 .f32) (h : S4x64x2x64x192.ShapeCasts S4x128x128x96) : shapeCast S4x128x128x96 (lvl2 x) h = res2 x := by
  funext i
  have b0 : (i 0).val < 4 := (i 0).isLt
  have b1 : (i 1).val < 128 := (i 1).isLt
  have b2 : (i 2).val < 128 := (i 2).isLt
  have b3 : (i 3).val < 96 := (i 3).isLt
  rw [shapeCast_apply (lvl2 x) h i (ix5 (⟨(i 0).val, b0⟩ : Fin 4) (⟨(i 1).val / 2, by omega⟩ : Fin 64) (⟨(i 1).val % 2, by omega⟩ : Fin 2)
    (⟨(i 2).val / 2, by omega⟩ : Fin 64) (⟨(i 2).val % 2 * 96 + (i 3).val, by omega⟩ : Fin 192)) (by
      rw [Shape.rowMajor_val_five, Shape.rowMajor_val_four]
      show ((((i 0).val * 64 + (i 1).val / 2) * 2 + (i 1).val % 2) * 64 + (i 2).val / 2) * 192 + ((i 2).val % 2 * 96 + (i 3).val)
        = (((i 0).val * 128 + (i 1).val) * 128 + (i 2).val) * 96 + (i 3).val
      omega)]
  show P (P (img x (i 0).val)) (2 * ((i 1).val / 2) + (i 1).val % 2) (2 * ((i 2).val / 2) + ((i 2).val % 2 * 96 + (i 3).val) / 96) ⟨((i 2).val % 2 * 96 + (i 3).val) % 96, _⟩
    = P (P (img x (i 0).val)) (i 1).val (i 2).val ⟨(i 3).val, (i 3).isLt⟩
  congr 1
  · omega
  · omega
  · exact Fin.ext (by show ((i 2).val % 2 * 96 + (i 3).val) % 96 = (i 3).val; omega)

section
variable {F : FTy → Type} [FloatOps F]

/-- Whatever the image's array may hold at the end is the image. -/
theorem arr0 {m : (ℓ : Loc nD τ sig) → Buf (Elt F) ℓ} {c : Dev nD} {A : Buf (Elt F) ((cfg0.win 0).arr.view.loc (c.tc : Thread nD τ))}
    (hA : (rdat m c).ArrAt 0 cfg0.N A) : A = m ((c : Thread nD τ).loc main_arg0) := by
  rw [(rdat m c).ArrAt_in 0 rfl] at hA
  exact hA.trans (V_main_arg0 m c)

/-- Every run leaves the image as it was, and every counter at zero. -/
theorem frame_run (m : (ℓ : Loc nD τ sig) → Buf (Elt F) ℓ) (g : Dev nD → PrngReg) :
    θ_run defs (onTc (τ := τ) (main (F := F))) ⟨m, fun _ => 0, g⟩
      (fun r => (∀ c : Dev nD, r.2.mem ((c.tc : Thread nD τ).loc main_arg0) = m ((c.tc : Thread nD τ).loc main_arg0)) ∧ r.2.sem = fun _ => 0) :=
  (θ_run defs _ _).mono (fun r h => ⟨fun c => arr0 ((h.1 c).1 0), h.2⟩) (run_main m g)
end

/-- THE RESULTS: every run ends with the images pooled twice and three times, and the images as they were. -/
theorem result_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v0_0) = res2 (imgs m c)
        ∧ r.2.mem ((c.tc : Thread nD τ).loc main_v0_1) = lvl3 (imgs m c)
        ∧ r.2.mem ((c.tc : Thread nD τ).loc main_arg0) = m ((c.tc : Thread nD τ).loc main_arg0)) := by
  refine (θ_run defs _ _).mono (fun r h c => ⟨?_, arr2 ((h.1 c).1 2), arr0 ((h.1 c).1 0)⟩) (run_main m g)
  obtain ⟨A, hA, hb⟩ := (h.1 c).2
  rw [hb main_v0_0 (by decide)]
  refine Eq.trans ?_ (flat (imgs m c) shapeCasts_S4x64x2x64x192_S4x128x128x96)
  rw [← arr1 (hA 1)]
  have hw := withArrays_arr spec0 launch0.win.arr_inj c (V0 m c) A 1
  unfold tail
  simp only [hostOps1, List.flatten_cons, List.flatten_nil, List.append_nil]
  rw [← hw]
  rfl

end Cert.KernelIdeal.Pool

end
-- ==== Proof.Pool.Twin.lean ====
/- The kernel's text read on bits and read on extended reals is one text: what is proved of every run of the one, at any
   reading of the floats, holds of the other. -/
module

public import proofs.«01_k».proof.Proof.Gen.Kernel.Frame
public import proofs.«01_k».proof.Proof.Pool.Result

@[expose] public section

set_option maxRecDepth 16384

noncomputable section

namespace Cert.KernelIdeal.Pool

open Idealize.ShloMosaic Idealize.ShloMosaic.TcCoe Idealize.SL.Sem

variable {F : FTy → Type} [FloatOps F]

/-- The two programs' kernel bodies agree. -/
theorem twin_bodies : Cert.Kernel.defs₀ (F := F) = Cert.KernelIdeal.defs₀ (F := F) := by
  unfold Kernel.defs₀ KernelIdeal.defs₀
  congr 1
  funext l x
  match l, x with
  | ⟨0, _⟩, ⟨t, s⟩ => rfl

/-- And so do their tables of bodies. -/
theorem twin_defs : Cert.Kernel.defs (F := F) = Cert.KernelIdeal.defs (F := F) := by
  unfold Kernel.defs KernelIdeal.defs; rw [twin_bodies]; rfl

/-- Every run of the printed kernel leaves the image as it was, and every counter at zero. -/
theorem twin_frame (m : (ℓ : Loc Kernel.nD Kernel.τ Kernel.sig) → Buf (Elt F) ℓ) (g : Dev Kernel.nD → PrngReg) :
    θ_run (Cert.Kernel.defs (F := F)) (onTc (τ := Kernel.τ) (Cert.Kernel.main (F := F))) ⟨m, fun _ => 0, g⟩
      (fun r => (∀ c : Dev Kernel.nD, r.2.mem ((c.tc : Thread Kernel.nD Kernel.τ).loc Kernel.main_arg0) = m ((c.tc : Thread Kernel.nD Kernel.τ).loc Kernel.main_arg0))
        ∧ r.2.sem = fun _ => 0) := by
  rw [twin_defs]
  exact frame_run (F := F) m g

end Cert.KernelIdeal.Pool

end
-- ==== Proof.lean ====
/- The claims about the three sum poolings: the kernel's frame as printed and over the reals, the reference's frame, that the
   kernel over the reals is the printed kernel's own text, and that both results of the kernel are the reference's.
   The modules under Proof/Pool hold the proof: Body (a run of the body), Data and Launch (the whole run), Fields, Tile, Cross and
   Pend (what a run of the body computes), Value and Result (the two results), Window (the reference's window sum), Twin (the printed kernel). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Pool.Twin
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the reference leaves the image as it was; it has no counter. -/
theorem reference_frame : Cert.quiescent_ReferenceIdeal := by
  intro m g _
  refine (θ_run Cert.ReferenceIdeal.defs _ _).mono (Q := fun r => ∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0))
    (fun r h => ⟨h, sem_eq_zero_of_no_sems (by decide) r.2⟩) ?_
  hlo_run

/-- The reference's sums start from zero. -/
theorem start_zero {h : Cert.ReferenceIdeal.S_.BroadcastsInDim Cert.ReferenceIdeal.S_ (![] : Fin 0 → Fin 0)} (i : Cert.ReferenceIdeal.S_.Idx) :
    (broadcastInDim Cert.ReferenceIdeal.S_ ![] h (constant (F := Ideal) Cert.ReferenceIdeal.S_ .f32 0x00000000#32)) i = (0 : EReal) :=
  Ideal.ofBits_zero_f32

/-- The kernel and the reference, from the same image, end with the same two results. -/
theorem results_equal : Cert.algebraic_KernelIdeal_ReferenceIdeal := by
  pair_intro
  · exact Cert.KernelIdeal.Pool.result_run m g
  · hlo_run
    · exact Cert.KernelIdeal.Pool.ref2 _ _ _ start_zero start_zero _ _ _
    · exact Cert.KernelIdeal.Pool.ref3 _ _ _ _ start_zero start_zero start_zero _ _ _ _

/-- THE CLAIMS. -/
theorem claim : Cert.Claim := ⟨Cert.Kernel.Gen.facts, Cert.KernelIdeal.Gen.facts, Cert.ReferenceIdeal.Gen.facts,
  fun m g _ => Cert.KernelIdeal.Pool.twin_frame m g, fun m g _ => Cert.KernelIdeal.Pool.frame_run m g, reference_frame, trivial, results_equal⟩

end Cert.Proof

end
